-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_inputs [hPre_plain_inputs : Cert.Pre_plain_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_plain_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_inputs [hPre_plain_inputs : Cert.Pre_plain_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_plain_inputs [hKernelIdeal : Cert.KernelIdeal.Facts] [hPre_plain_inputs : Cert.Pre_plain_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_plain_inputs [hReferenceIdeal : Cert.ReferenceIdeal.Facts] [hPre_plain_inputs : Cert.Pre_plain_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "inv_n" .f32 0x3BAAAAAB#32 ((1 / 192 : ℝ) : EReal)
  ∧ IdealRules.named_const.Statement Cert.KernelIdeal.κ "inv_sqrt2" .f32 0x3F3504F3#32 (((Real.sqrt 2)⁻¹ : ℝ) : EReal)

def algebraic_KernelIdeal_ReferenceIdeal_pre_plain_inputs [hKernelIdeal : Cert.KernelIdeal.Facts] [hReferenceIdeal : Cert.ReferenceIdeal.Facts] [hPre_plain_inputs : Cert.Pre_plain_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v515) = v0 c
          ∧ r.2.mem ((c.tc : Thread Cert.ReferenceIdeal.nD Cert.ReferenceIdeal.τ).loc Cert.ReferenceIdeal.main_v517) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_plain_inputs : Cert.Pre_plain_inputs.Facts),
    quiescent_Kernel (hKernel := hKernel)
    ∧ quiescent_KernelIdeal (hKernelIdeal := hKernelIdeal)
    ∧ quiescent_KernelIdeal_pre_plain_inputs (hKernelIdeal := hKernelIdeal) (hPre_plain_inputs := hPre_plain_inputs)
    ∧ quiescent_ReferenceIdeal (hReferenceIdeal := hReferenceIdeal)
    ∧ quiescent_ReferenceIdeal_pre_plain_inputs (hReferenceIdeal := hReferenceIdeal) (hPre_plain_inputs := hPre_plain_inputs)
    ∧ preserves_Kernel_KernelIdeal
    ∧ algebraic_KernelIdeal_ReferenceIdeal_pre_plain_inputs (hKernelIdeal := hKernelIdeal) (hReferenceIdeal := hReferenceIdeal) (hPre_plain_inputs := hPre_plain_inputs)
-- ==== Pre_plain_inputs.lean ====
abbrev S16x2x4096 : Shape := ⟨3, ![16, 2, 4096]⟩
abbrev S16x1x4096 : Shape := ⟨3, ![16, 1, 4096]⟩
abbrev S192x1x1 : Shape := ⟨3, ![192, 1, 1]⟩
abbrev S192 : Shape := ⟨1, ![192]⟩
abbrev S3x192x1x3 : Shape := ⟨4, ![3, 192, 1, 3]⟩
abbrev S3x192 : Shape := ⟨2, ![3, 192]⟩
abbrev S3x192x192x1 : Shape := ⟨4, ![3, 192, 192, 1]⟩
abbrev S29x192x1 : Shape := ⟨3, ![29, 192, 1]⟩
abbrev S29 : Shape := ⟨1, ![29]⟩
abbrev S_ : Shape := ⟨0, ![]⟩

class Facts : Prop where
  slices_S16x2x4096_S16x1x4096_0_0_0 : S16x2x4096.Slices ![0, 0, 0] S16x1x4096
  bcast_S_S16x1x4096 : S_.BroadcastsInDim S16x1x4096 (![] : Fin 0 → Fin S16x1x4096.rank)
  reducesTo_S16x1x4096_S_d0_1_2 : S16x1x4096.ReducesTo [0, 1, 2] S_
  h_S_ : 0 < S_.numel
  bcast_S_S192x1x1 : S_.BroadcastsInDim S192x1x1 (![] : Fin 0 → Fin S192x1x1.rank)
  reducesTo_S192x1x1_S_d0_1_2 : S192x1x1.ReducesTo [0, 1, 2] S_
  bcast_S_S3x192x1x3 : S_.BroadcastsInDim S3x192x1x3 (![] : Fin 0 → Fin S3x192x1x3.rank)
  reducesTo_S3x192x1x3_S_d0_1_2_3 : S3x192x1x3.ReducesTo [0, 1, 2, 3] S_
  bcast_S_S3x192x192x1 : S_.BroadcastsInDim S3x192x192x1 (![] : Fin 0 → Fin S3x192x192x1.rank)
  reducesTo_S3x192x192x1_S_d0_1_2_3 : S3x192x192x1.ReducesTo [0, 1, 2, 3] S_
  bcast_S_S29x192x1 : S_.BroadcastsInDim S29x192x1 (![] : Fin 0 → Fin S29x192x1.rank)
  reducesTo_S29x192x1_S_d0_1_2 : S29x192x1.ReducesTo [0, 1, 2] S_
  bcast_S_S3x192 : S_.BroadcastsInDim S3x192 (![] : Fin 0 → Fin S3x192.rank)
  reducesTo_S3x192_S_d0_1 : S3x192.ReducesTo [0, 1] S_
  bcast_S_S192 : S_.BroadcastsInDim S192 (![] : Fin 0 → Fin S192.rank)
  reducesTo_S192_S_d0 : S192.ReducesTo [0] S_
  bcast_S_S29 : S_.BroadcastsInDim S29 (![] : Fin 0 → Fin S29.rank)
  reducesTo_S29_S_d0 : S29.ReducesTo [0] S_

variable [Facts]

def fn_part3 {F : FTy → Type} [FloatOps F] (main_arg9 : FVec F S3x192 .f32) (main_arg11 : FVec F S3x192 .f32) (main_v24 : IVec S_ 1) (main_v35 : IVec S_ 1) (main_v46 : IVec S_ 1) (main_v48 : IVec S29 1) : IVec S_ 1 :=
  let main_c_21 : IVec S_ 1 := constantI S_ 1 1#1
  let main_v49 : IVec S_ 1 := (fun x v => Host.reduce IntOp.andi x v reducesTo_S29_S_d0 h_S_) main_v48 main_c_21
  let main_v50 : IVec S_ 1 := andi main_v46 main_v49
  let main_v51 : IVec S_ 1 := andi main_v24 main_v35
  let main_v52 : IVec S_ 1 := andi main_v51 main_v50
  let main_cst_22 : FVec F S_ .f32 := constant S_ .f32 0x00000000#32
  let main_v53 : FVec F S3x192 .f32 := broadcastInDim S3x192 ![] bcast_S_S3x192 main_cst_22
  let main_v54 : IVec S3x192 1 := cmpf .oeq main_arg9 main_v53
  let main_c_23 : IVec S_ 1 := constantI S_ 1 1#1
  let main_v55 : IVec S_ 1 := (fun x v => Host.reduce IntOp.andi x v reducesTo_S3x192_S_d0_1 h_S_) main_v54 main_c_23
  let main_v56 : IVec S_ 1 := andi main_v52 main_v55
  let main_cst_24 : FVec F S_ .f32 := constant S_ .f32 0x00000000#32
  let main_v57 : FVec F S3x192 .f32 := broadcastInDim S3x192 ![] bcast_S_S3x192 main_cst_24
  let main_v58 : IVec S3x192 1 := cmpf .oeq main_arg11 main_v57
  let main_c_25 : IVec S_ 1 := constantI S_ 1 1#1
  let main_v59 : IVec S_ 1 := (fun x v => Host.reduce IntOp.andi x v reducesTo_S3x192_S_d0_1 h_S_) main_v58 main_c_25
  let main_v60 : IVec S_ 1 := andi main_v56 main_v59
  main_v60

def fn_part2 {F : FTy → Type} [FloatOps F] (main_arg3 : FVec F S192 .f32) (main_arg5 : FVec F S3x192 .f32) (main_arg7 : FVec F S3x192 .f32) (main_arg9 : FVec F S3x192 .f32) (main_arg10 : FVec F S3x192 .f32) (main_arg11 : FVec F S3x192 .f32) (main_arg13 : FVec F S29 .f32) (main_v24 : IVec S_ 1) (main_v31 : IVec S_ 1) (main_v32 : FVec F S3x192 .f32) : IVec S_ 1 :=
  let main_v33 : IVec S3x192 1 := cmpf .oeq main_arg10 main_v32
  let main_c_13 : IVec S_ 1 := constantI S_ 1 1#1
  let main_v34 : IVec S_ 1 := (fun x v => Host.reduce IntOp.andi x v reducesTo_S3x192_S_d0_1 h_S_) main_v33 main_c_13
  let main_v35 : IVec S_ 1 := andi main_v31 main_v34
  let main_cst_14 : FVec F S_ .f32 := constant S_ .f32 0x00000000#32
  let main_v36 : FVec F S192 .f32 := broadcastInDim S192 ![] bcast_S_S192 main_cst_14
  let main_v37 : IVec S192 1 := cmpf .oeq main_arg3 main_v36
  let main_c_15 : IVec S_ 1 := constantI S_ 1 1#1
  let main_v38 : IVec S_ 1 := (fun x v => Host.reduce IntOp.andi x v reducesTo_S192_S_d0 h_S_) main_v37 main_c_15
  let main_cst_16 : FVec F S_ .f32 := constant S_ .f32 0x00000000#32
  let main_v39 : FVec F S3x192 .f32 := broadcastInDim S3x192 ![] bcast_S_S3x192 main_cst_16
  let main_v40 : IVec S3x192 1 := cmpf .oeq main_arg5 main_v39
  let main_c_17 : IVec S_ 1 := constantI S_ 1 1#1
  let main_v41 : IVec S_ 1 := (fun x v => Host.reduce IntOp.andi x v reducesTo_S3x192_S_d0_1 h_S_) main_v40 main_c_17
  let main_v42 : IVec S_ 1 := andi main_v38 main_v41
  let main_cst_18 : FVec F S_ .f32 := constant S_ .f32 0x00000000#32
  let main_v43 : FVec F S3x192 .f32 := broadcastInDim S3x192 ![] bcast_S_S3x192 main_cst_18
  let main_v44 : IVec S3x192 1 := cmpf .oeq main_arg7 main_v43
  let main_c_19 : IVec S_ 1 := constantI S_ 1 1#1
  let main_v45 : IVec S_ 1 := (fun x v => Host.reduce IntOp.andi x v reducesTo_S3x192_S_d0_1 h_S_) main_v44 main_c_19
  let main_v46 : IVec S_ 1 := andi main_v42 main_v45
  let main_cst_20 : FVec F S_ .f32 := constant S_ .f32 0x00000000#32
  let main_v47 : FVec F S29 .f32 := broadcastInDim S29 ![] bcast_S_S29 main_cst_20
  let main_v48 : IVec S29 1 := cmpf .oeq main_arg13 main_v47
  fn_part3 (F := F) main_arg9 main_arg11 main_v24 main_v35 main_v46 main_v48

def fn_part1 {F : FTy → Type} [FloatOps F] (main_arg1 : FVec F S16x1x4096 .f32) (main_arg3 : FVec F S192 .f32) (main_arg5 : FVec F S3x192 .f32) (main_arg7 : FVec F S3x192 .f32) (main_arg8 : FVec F S3x192 .f32) (main_arg9 : FVec F S3x192 .f32) (main_arg10 : FVec F S3x192 .f32) (main_arg11 : FVec F S3x192 .f32) (main_arg12 : FVec F S29x192x1 .f32) (main_arg13 : FVec F S29 .f32) (main_v14 : IVec S_ 1) (main_v15 : FVec F S3x192x192x1 .f32) (main_v16 : FVec F S3x192x192x1 .f32) : IVec S_ 1 :=
  let main_v17 : IVec S3x192x192x1 1 := cmpf .olt main_v15 main_v16
  let main_c_5 : IVec S_ 1 := constantI S_ 1 1#1
  let main_v18 : IVec S_ 1 := (fun x v => Host.reduce IntOp.andi x v reducesTo_S3x192x192x1_S_d0_1_2_3 h_S_) main_v17 main_c_5
  let main_v19 : IVec S_ 1 := andi main_v14 main_v18
  let main_v20 : FVec F S29x192x1 .f32 := Host.absf main_arg12
  let main_cst_6 : FVec F S_ .f32 := constant S_ .f32 0x7F800000#32
  let main_v21 : FVec F S29x192x1 .f32 := broadcastInDim S29x192x1 ![] bcast_S_S29x192x1 main_cst_6
  let main_v22 : IVec S29x192x1 1 := cmpf .olt main_v20 main_v21
  let main_c_7 : IVec S_ 1 := constantI S_ 1 1#1
  let main_v23 : IVec S_ 1 := (fun x v => Host.reduce IntOp.andi x v reducesTo_S29x192x1_S_d0_1_2 h_S_) main_v22 main_c_7
  let main_v24 : IVec S_ 1 := andi main_v19 main_v23
  let main_cst_8 : FVec F S_ .f32 := constant S_ .f32 0x3F800000#32
  let main_v25 : FVec F S16x1x4096 .f32 := broadcastInDim S16x1x4096 ![] bcast_S_S16x1x4096 main_cst_8
  let main_v26 : IVec S16x1x4096 1 := cmpf .oeq main_arg1 main_v25
  let main_c_9 : IVec S_ 1 := constantI S_ 1 1#1
  let main_v27 : IVec S_ 1 := (fun x v => Host.reduce IntOp.andi x v reducesTo_S16x1x4096_S_d0_1_2 h_S_) main_v26 main_c_9
  let main_cst_10 : FVec F S_ .f32 := constant S_ .f32 0x3F800000#32
  let main_v28 : FVec F S3x192 .f32 := broadcastInDim S3x192 ![] bcast_S_S3x192 main_cst_10
  let main_v29 : IVec S3x192 1 := cmpf .oeq main_arg8 main_v28
  let main_c_11 : IVec S_ 1 := constantI S_ 1 1#1
  let main_v30 : IVec S_ 1 := (fun x v => Host.reduce IntOp.andi x v reducesTo_S3x192_S_d0_1 h_S_) main_v29 main_c_11
  let main_v31 : IVec S_ 1 := andi main_v27 main_v30
  let main_cst_12 : FVec F S_ .f32 := constant S_ .f32 0x3F800000#32
  let main_v32 : FVec F S3x192 .f32 := broadcastInDim S3x192 ![] bcast_S_S3x192 main_cst_12
  fn_part2 (F := F) main_arg3 main_arg5 main_arg7 main_arg9 main_arg10 main_arg11 main_arg13 main_v24 main_v31 main_v32

def fn {F : FTy → Type} [FloatOps F] (main_arg0 : FVec F S16x2x4096 .f32) (main_arg1 : FVec F S16x1x4096 .f32) (main_arg2 : FVec F S192x1x1 .f32) (main_arg3 : FVec F S192 .f32) (main_arg4 : FVec F S3x192x1x3 .f32) (main_arg5 : FVec F S3x192 .f32) (main_arg6 : FVec F S3x192x192x1 .f32) (main_arg7 : FVec F S3x192 .f32) (main_arg8 : FVec F S3x192 .f32) (main_arg9 : FVec F S3x192 .f32) (main_arg10 : FVec F S3x192 .f32) (main_arg11 : FVec F S3x192 .f32) (main_arg12 : FVec F S29x192x1 .f32) (main_arg13 : FVec F S29 .f32) : IVec S_ 1 :=
  let main_v0 : FVec F S16x1x4096 .f32 := (extractStridedSlice S16x1x4096 ![0, 0, 0] · slices_S16x2x4096_S16x1x4096_0_0_0) main_arg0
  let main_v1 : FVec F S16x1x4096 .f32 := Host.absf main_v0
  let main_cst : FVec F S_ .f32 := constant S_ .f32 0x7F800000#32
  let main_v2 : FVec F S16x1x4096 .f32 := broadcastInDim S16x1x4096 ![] bcast_S_S16x1x4096 main_cst
  let main_v3 : IVec S16x1x4096 1 := cmpf .olt main_v1 main_v2
  let main_c : IVec S_ 1 := constantI S_ 1 1#1
  let main_v4 : IVec S_ 1 := (fun x v => Host.reduce IntOp.andi x v reducesTo_S16x1x4096_S_d0_1_2 h_S_) main_v3 main_c
  let main_v5 : FVec F S192x1x1 .f32 := Host.absf main_arg2
  let main_cst_0 : FVec F S_ .f32 := constant S_ .f32 0x7F800000#32
  let main_v6 : FVec F S192x1x1 .f32 := broadcastInDim S192x1x1 ![] bcast_S_S192x1x1 main_cst_0
  let main_v7 : IVec S192x1x1 1 := cmpf .olt main_v5 main_v6
  let main_c_1 : IVec S_ 1 := constantI S_ 1 1#1
  let main_v8 : IVec S_ 1 := (fun x v => Host.reduce IntOp.andi x v reducesTo_S192x1x1_S_d0_1_2 h_S_) main_v7 main_c_1
  let main_v9 : IVec S_ 1 := andi main_v4 main_v8
  let main_v10 : FVec F S3x192x1x3 .f32 := Host.absf main_arg4
  let main_cst_2 : FVec F S_ .f32 := constant S_ .f32 0x7F800000#32
  let main_v11 : FVec F S3x192x1x3 .f32 := broadcastInDim S3x192x1x3 ![] bcast_S_S3x192x1x3 main_cst_2
  let main_v12 : IVec S3x192x1x3 1 := cmpf .olt main_v10 main_v11
  let main_c_3 : IVec S_ 1 := constantI S_ 1 1#1
  let main_v13 : IVec S_ 1 := (fun x v => Host.reduce IntOp.andi x v reducesTo_S3x192x1x3_S_d0_1_2_3 h_S_) main_v12 main_c_3
  let main_v14 : IVec S_ 1 := andi main_v9 main_v13
  let main_v15 : FVec F S3x192x192x1 .f32 := Host.absf main_arg6
  let main_cst_4 : FVec F S_ .f32 := constant S_ .f32 0x7F800000#32
  let main_v16 : FVec F S3x192x192x1 .f32 := broadcastInDim S3x192x192x1 ![] bcast_S_S3x192x192x1 main_cst_4
  fn_part1 (F := F) main_arg1 main_arg3 main_arg5 main_arg7 main_arg8 main_arg9 main_arg10 main_arg11 main_arg12 main_arg13 main_v14 main_v15 main_v16
-- ==== Kernel.lean ====
abbrev S16x2x4096 : Shape := ⟨3, ![16, 2, 4096]⟩
abbrev S16x1x4096 : Shape := ⟨3, ![16, 1, 4096]⟩
abbrev S192x1x1 : Shape := ⟨3, ![192, 1, 1]⟩
abbrev S192 : Shape := ⟨1, ![192]⟩
abbrev S3x192x1x3 : Shape := ⟨4, ![3, 192, 1, 3]⟩
abbrev S3x192 : Shape := ⟨2, ![3, 192]⟩
abbrev S3x192x192x1 : Shape := ⟨4, ![3, 192, 192, 1]⟩
abbrev S29x192x1 : Shape := ⟨3, ![29, 192, 1]⟩
abbrev S29 : Shape := ⟨1, ![29]⟩
abbrev S192x1 : Shape := ⟨2, ![192, 1]⟩
abbrev S192x3 : Shape := ⟨2, ![192, 3]⟩
abbrev S3x192x3 : Shape := ⟨3, ![3, 192, 3]⟩
abbrev S192x3x3 : Shape := ⟨3, ![192, 3, 3]⟩
abbrev S192x9 : Shape := ⟨2, ![192, 9]⟩
abbrev S3x192x192 : Shape := ⟨3, ![3, 192, 192]⟩
abbrev S_ : Shape := ⟨0, ![]⟩
abbrev S3x1x192 : Shape := ⟨3, ![3, 1, 192]⟩
abbrev S3x7x192 : Shape := ⟨3, ![3, 7, 192]⟩
abbrev S3x200x192 : Shape := ⟨3, ![3, 200, 192]⟩
abbrev S3x200x576 : Shape := ⟨3, ![3, 200, 576]⟩
abbrev S20x1 : Shape := ⟨2, ![20, 1]⟩
abbrev S9x1 : Shape := ⟨2, ![9, 1]⟩
abbrev S29x1 : Shape := ⟨2, ![29, 1]⟩
abbrev S32x192 : Shape := ⟨2, ![32, 192]⟩
abbrev S29x192 : Shape := ⟨2, ![29, 192]⟩
abbrev S1 : Shape := ⟨1, ![1]⟩
abbrev S32x576 : Shape := ⟨2, ![32, 576]⟩
abbrev S16x1x128 : Shape := ⟨3, ![16, 1, 128]⟩
abbrev S2x2x4096 : Shape := ⟨3, ![2, 2, 4096]⟩
abbrev S2x1x128 : Shape := ⟨3, ![2, 1, 128]⟩
abbrev S1x1x4096 : Shape := ⟨3, ![1, 1, 4096]⟩
abbrev S1x4096 : Shape := ⟨2, ![1, 4096]⟩
abbrev S3x4096 : Shape := ⟨2, ![3, 4096]⟩
abbrev S192x4096 : Shape := ⟨2, ![192, 4096]⟩
abbrev S192x4095 : Shape := ⟨2, ![192, 4095]⟩
abbrev S4096 : Shape := ⟨1, ![4096]⟩
abbrev S1x200x576 : Shape := ⟨3, ![1, 200, 576]⟩
abbrev S200x576 : Shape := ⟨2, ![200, 576]⟩
abbrev S576x4096 : Shape := ⟨2, ![576, 4096]⟩
abbrev S200x4096 : Shape := ⟨2, ![200, 4096]⟩
abbrev S192x4093 : Shape := ⟨2, ![192, 4093]⟩
abbrev S192x4087 : Shape := ⟨2, ![192, 4087]⟩
abbrev S32x4096 : Shape := ⟨2, ![32, 4096]⟩
abbrev S10x4096 : Shape := ⟨2, ![10, 4096]⟩
abbrev S9x4096 : Shape := ⟨2, ![9, 4096]⟩
abbrev S10x10 : Shape := ⟨2, ![10, 10]⟩
abbrev S11x4096 : Shape := ⟨2, ![11, 4096]⟩
abbrev S1x1x1 : Shape := ⟨3, ![1, 1, 1]⟩
abbrev S128 : Shape := ⟨1, ![128]⟩
abbrev S1x1x128 : Shape := ⟨3, ![1, 1, 128]⟩
abbrev S16x1x1 : Shape := ⟨3, ![16, 1, 1]⟩
abbrev S16 : Shape := ⟨1, ![16]⟩

abbrev nBuf : Space → Nat
  | .hbm => 60
  | .vmem => 10
  | .smem => 0
  | _ => 0

abbrev bufTy : (tb : Table) → Fin (tcTables nBuf tb) → BufTy
  | .hbm, ⟨0, _⟩ => ⟨S16x2x4096, .f32⟩
  | .hbm, ⟨1, _⟩ => ⟨S16x1x4096, .f32⟩
  | .hbm, ⟨2, _⟩ => ⟨S192x1x1, .f32⟩
  | .hbm, ⟨3, _⟩ => ⟨S192, .f32⟩
  | .hbm, ⟨4, _⟩ => ⟨S3x192x1x3, .f32⟩
  | .hbm, ⟨5, _⟩ => ⟨S3x192, .f32⟩
  | .hbm, ⟨6, _⟩ => ⟨S3x192x192x1, .f32⟩
  | .hbm, ⟨7, _⟩ => ⟨S3x192, .f32⟩
  | .hbm, ⟨8, _⟩ => ⟨S3x192, .f32⟩
  | .hbm, ⟨9, _⟩ => ⟨S3x192, .f32⟩
  | .hbm, ⟨10, _⟩ => ⟨S3x192, .f32⟩
  | .hbm, ⟨11, _⟩ => ⟨S3x192, .f32⟩
  | .hbm, ⟨12, _⟩ => ⟨S29x192x1, .f32⟩
  | .hbm, ⟨13, _⟩ => ⟨S29, .f32⟩
  | .hbm, ⟨14, _⟩ => ⟨S192x1, .f32⟩
  | .hbm, ⟨15, _⟩ => ⟨S192x1, .bf16⟩
  | .hbm, ⟨16, _⟩ => ⟨S192x1, .f32⟩
  | .hbm, ⟨17, _⟩ => ⟨S192x1, .f32⟩
  | .hbm, ⟨18, _⟩ => ⟨S192x1, .bf16⟩
  | .hbm, ⟨19, _⟩ => ⟨S192x3, .bf16⟩
  | .hbm, ⟨20, _⟩ => ⟨S3x192x3, .f32⟩
  | .hbm, ⟨21, _⟩ => ⟨S192x3x3, .f32⟩
  | .hbm, ⟨22, _⟩ => ⟨S192x9, .f32⟩
  | .hbm, ⟨23, _⟩ => ⟨S3x192x192, .f32⟩
  | .hbm, ⟨24, _⟩ => ⟨S_, .f32⟩
  | .hbm, ⟨25, _⟩ => ⟨S3x192x192, .f32⟩
  | .hbm, ⟨26, _⟩ => ⟨S3x192x192, .f32⟩
  | .hbm, ⟨27, _⟩ => ⟨S_, .f32⟩
  | .hbm, ⟨28, _⟩ => ⟨S3x192, .f32⟩
  | .hbm, ⟨29, _⟩ => ⟨S3x1x192, .f32⟩
  | .hbm, ⟨30, _⟩ => ⟨S_, .f32⟩
  | .hbm, ⟨31, _⟩ => ⟨S3x7x192, .f32⟩
  | .hbm, ⟨32, _⟩ => ⟨S3x200x192, .f32⟩
  | .hbm, ⟨33, _⟩ => ⟨S3x200x192, .bf16⟩
  | .hbm, ⟨34, _⟩ => ⟨S3x200x192, .f32⟩
  | .hbm, ⟨35, _⟩ => ⟨S3x200x192, .f32⟩
  | .hbm, ⟨36, _⟩ => ⟨S3x200x192, .bf16⟩
  | .hbm, ⟨37, _⟩ => ⟨S3x200x576, .bf16⟩
  | .hbm, ⟨38, _⟩ => ⟨S_, .f32⟩
  | .hbm, ⟨39, _⟩ => ⟨S20x1, .f32⟩
  | .hbm, ⟨40, _⟩ => ⟨S_, .f32⟩
  | .hbm, ⟨41, _⟩ => ⟨S9x1, .f32⟩
  | .hbm, ⟨42, _⟩ => ⟨S29x1, .f32⟩
  | .hbm, ⟨43, _⟩ => ⟨S_, .f32⟩
  | .hbm, ⟨44, _⟩ => ⟨S32x192, .f32⟩
  | .hbm, ⟨45, _⟩ => ⟨S29x192, .f32⟩
  | .hbm, ⟨46, _⟩ => ⟨S29x192, .f32⟩
  | .hbm, ⟨47, _⟩ => ⟨S29x192, .f32⟩
  | .hbm, ⟨48, _⟩ => ⟨S_, .i32⟩
  | .hbm, ⟨49, _⟩ => ⟨S1, .i32⟩
  | .hbm, ⟨50, _⟩ => ⟨S32x192, .f32⟩
  | .hbm, ⟨51, _⟩ => ⟨S32x192, .bf16⟩
  | .hbm, ⟨52, _⟩ => ⟨S32x192, .f32⟩
  | .hbm, ⟨53, _⟩ => ⟨S32x192, .f32⟩
  | .hbm, ⟨54, _⟩ => ⟨S32x192, .bf16⟩
  | .hbm, ⟨55, _⟩ => ⟨S32x576, .bf16⟩
  | .hbm, ⟨56, _⟩ => ⟨S16x2x4096, .f32⟩
  | .hbm, ⟨57, _⟩ => ⟨S16x1x128, .f32⟩
  | .hbm, ⟨58, _⟩ => ⟨S16x1x1, .f32⟩
  | .hbm, ⟨59, _⟩ => ⟨S16, .f32⟩
  | .local _ .vmem, ⟨0, _⟩ => ⟨S2x2x4096, .f32⟩
  | .local _ .vmem, ⟨1, _⟩ => ⟨S2x2x4096, .f32⟩
  | .local _ .vmem, ⟨2, _⟩ => ⟨S192x3, .bf16⟩
  | .local _ .vmem, ⟨3, _⟩ => ⟨S192x9, .f32⟩
  | .local _ .vmem, ⟨4, _⟩ => ⟨S3x200x576, .bf16⟩
  | .local _ .vmem, ⟨5, _⟩ => ⟨S32x576, .bf16⟩
  | .local _ .vmem, ⟨6, _⟩ => ⟨S2x2x4096, .f32⟩
  | .local _ .vmem, ⟨7, _⟩ => ⟨S2x2x4096, .f32⟩
  | .local _ .vmem, ⟨8, _⟩ => ⟨S2x1x128, .f32⟩
  | .local _ .vmem, ⟨9, _⟩ => ⟨S2x1x128, .f32⟩
  | _, _ => ⟨S16x2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35_0 : Ref sig .tc := ⟨.hbm, 56, rfl⟩
abbrev main_v35_1 : Ref sig .tc := ⟨.hbm, 57, rfl⟩
abbrev main_v36 : Ref sig .tc := ⟨.hbm, 58, rfl⟩
abbrev main_v37 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x3 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x200x576 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x576 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x2x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "inv_n" => some ((1 / 192 : ℝ) : EReal)
  | "inv_sqrt2" => some (((Real.sqrt 2)⁻¹ : ℝ) : EReal)
  | _ => none
-- ==== ReferenceIdeal.lean ====
abbrev S16x2x4096 : Shape := ⟨3, ![16, 2, 4096]⟩
abbrev S16x1x4096 : Shape := ⟨3, ![16, 1, 4096]⟩
abbrev S192x1x1 : Shape := ⟨3, ![192, 1, 1]⟩
abbrev S192 : Shape := ⟨1, ![192]⟩
abbrev S3x192x1x3 : Shape := ⟨4, ![3, 192, 1, 3]⟩
abbrev S3x192 : Shape := ⟨2, ![3, 192]⟩
abbrev S3x192x192x1 : Shape := ⟨4, ![3, 192, 192, 1]⟩
abbrev S29x192x1 : Shape := ⟨3, ![29, 192, 1]⟩
abbrev S29 : Shape := ⟨1, ![29]⟩
abbrev S192x1 : Shape := ⟨2, ![192, 1]⟩
abbrev S16x4096x192 : Shape := ⟨3, ![16, 4096, 192]⟩
abbrev S16x192x4096 : Shape := ⟨3, ![16, 192, 4096]⟩
abbrev S1x192x1 : Shape := ⟨3, ![1, 192, 1]⟩
abbrev S1x192x1x3 : Shape := ⟨4, ![1, 192, 1, 3]⟩
abbrev S192x1x3 : Shape := ⟨3, ![192, 1, 3]⟩
abbrev S1x192 : Shape := ⟨2, ![1, 192]⟩
abbrev S_ : Shape := ⟨0, ![]⟩
abbrev S16x192x4098 : Shape := ⟨3, ![16, 192, 4098]⟩
abbrev S16x4096 : Shape := ⟨2, ![16, 4096]⟩
abbrev S1x192x192x1 : Shape := ⟨4, ![1, 192, 192, 1]⟩
abbrev S192x192x1 : Shape := ⟨3, ![192, 192, 1]⟩
abbrev S192x192 : Shape := ⟨2, ![192, 192]⟩
abbrev S16x192x4102 : Shape := ⟨3, ![16, 192, 4102]⟩
abbrev S16x192x4114 : Shape := ⟨3, ![16, 192, 4114]⟩
abbrev S29x192 : Shape := ⟨2, ![29, 192]⟩
abbrev S16x4096x29 : Shape := ⟨3, ![16, 4096, 29]⟩
abbrev S16x29x4096 : Shape := ⟨3, ![16, 29, 4096]⟩
abbrev S1x29x1 : Shape := ⟨3, ![1, 29, 1]⟩
abbrev S16x1x29x4096 : Shape := ⟨4, ![16, 1, 29, 4096]⟩
abbrev S16x1x4096x29 : Shape := ⟨4, ![16, 1, 4096, 29]⟩
abbrev S16x1x4096x10 : Shape := ⟨4, ![16, 1, 4096, 10]⟩
abbrev S16x1x4096x9 : Shape := ⟨4, ![16, 1, 4096, 9]⟩
abbrev S16x1x4096x1 : Shape := ⟨4, ![16, 1, 4096, 1]⟩
abbrev S16x1x4096x11 : Shape := ⟨4, ![16, 1, 4096, 11]⟩
abbrev S16x4096x1x1 : Shape := ⟨4, ![16, 4096, 1, 1]⟩
abbrev S16 : Shape := ⟨1, ![16]⟩

abbrev nBuf : Space → Nat
  | .hbm => 711
  | .vmem => 0
  | .smem => 0
  | _ => 0

abbrev hbmTy0_0 (i : Nat) : BufTy := match i % 128 with
  | 0 => ⟨S16x2x4096, .f32⟩
  | 1 => ⟨S16x1x4096, .f32⟩
  | 2 => ⟨S192x1x1, .f32⟩
  | 3 => ⟨S192, .f32⟩
  | 4 => ⟨S3x192x1x3, .f32⟩
  | 5 => ⟨S3x192, .f32⟩
  | 6 => ⟨S3x192x192x1, .f32⟩
  | 7 => ⟨S3x192, .f32⟩
  | 8 => ⟨S3x192, .f32⟩
  | 9 => ⟨S3x192, .f32⟩
  | 10 => ⟨S3x192, .f32⟩
  | 11 => ⟨S3x192, .f32⟩
  | 12 => ⟨S29x192x1, .f32⟩
  | 13 => ⟨S29, .f32⟩
  | 14 => ⟨S16x1x4096, .f32⟩
  | 15 => ⟨S16x1x4096, .f32⟩
  | 16 => ⟨S192x1, .f32⟩
  | 17 => ⟨S16x4096x192, .f32⟩
  | 18 => ⟨S16x192x4096, .f32⟩
  | 19 => ⟨S1x192x1, .f32⟩
  | 20 => ⟨S16x192x4096, .f32⟩
  | 21 => ⟨S16x192x4096, .f32⟩
  | 22 => ⟨S16x192x4096, .f32⟩
  | 23 => ⟨S16x192x4096, .f32⟩
  | 24 => ⟨S1x192x1x3, .f32⟩
  | 25 => ⟨S192x1x3, .f32⟩
  | 26 => ⟨S1x192, .f32⟩
  | 27 => ⟨S192, .f32⟩
  | 28 => ⟨S_, .i32⟩
  | 29 => ⟨S_, .f32⟩
  | 30 => ⟨S16x192x4098, .f32⟩
  | 31 => ⟨S16x192x4096, .f32⟩
  | 32 => ⟨S192x1x1, .f32⟩
  | 33 => ⟨S192, .f32⟩
  | 34 => ⟨S1x192x1, .f32⟩
  | 35 => ⟨S16x192x4096, .f32⟩
  | 36 => ⟨S16x192x4096, .f32⟩
  | 37 => ⟨S16x192x4096, .f32⟩
  | 38 => ⟨S192x1x1, .f32⟩
  | 39 => ⟨S192, .f32⟩
  | 40 => ⟨S1x192x1, .f32⟩
  | 41 => ⟨S16x192x4096, .f32⟩
  | 42 => ⟨S16x192x4096, .f32⟩
  | 43 => ⟨S16x192x4096, .f32⟩
  | 44 => ⟨S192x1x1, .f32⟩
  | 45 => ⟨S192, .f32⟩
  | 46 => ⟨S1x192x1, .f32⟩
  | 47 => ⟨S16x192x4096, .f32⟩
  | 48 => ⟨S16x192x4096, .f32⟩
  | 49 => ⟨S16x192x4096, .f32⟩
  | 50 => ⟨S16x192x4096, .f32⟩
  | 51 => ⟨S1x192x1, .f32⟩
  | 52 => ⟨S16x192x4096, .f32⟩
  | 53 => ⟨S16x192x4096, .f32⟩
  | 54 => ⟨S1x192, .f32⟩
  | 55 => ⟨S192, .f32⟩
  | 56 => ⟨S1x192, .f32⟩
  | 57 => ⟨S192, .f32⟩
  | 58 => ⟨S_, .f32⟩
  | 59 => ⟨S16x4096, .f32⟩
  | 60 => ⟨S16x1x4096, .f32⟩
  | 61 => ⟨S_, .f32⟩
  | 62 => ⟨S16x1x4096, .f32⟩
  | 63 => ⟨S16x1x4096, .f32⟩
  | 64 => ⟨S16x192x4096, .f32⟩
  | 65 => ⟨S16x192x4096, .f32⟩
  | 66 => ⟨S16x192x4096, .f32⟩
  | 67 => ⟨S_, .f32⟩
  | 68 => ⟨S16x4096, .f32⟩
  | 69 => ⟨S16x1x4096, .f32⟩
  | 70 => ⟨S_, .f32⟩
  | 71 => ⟨S16x1x4096, .f32⟩
  | 72 => ⟨S16x1x4096, .f32⟩
  | 73 => ⟨S16x192x4096, .f32⟩
  | 74 => ⟨S16x192x4096, .f32⟩
  | 75 => ⟨S_, .f32⟩
  | 76 => ⟨S16x1x4096, .f32⟩
  | 77 => ⟨S16x1x4096, .f32⟩
  | 78 => ⟨S16x1x4096, .f32⟩
  | 79 => ⟨S16x192x4096, .f32⟩
  | 80 => ⟨S16x192x4096, .f32⟩
  | 81 => ⟨S1x192x1, .f32⟩
  | 82 => ⟨S16x192x4096, .f32⟩
  | 83 => ⟨S16x192x4096, .f32⟩
  | 84 => ⟨S1x192x1, .f32⟩
  | 85 => ⟨S16x192x4096, .f32⟩
  | 86 => ⟨S16x192x4096, .f32⟩
  | 87 => ⟨S_, .f32⟩
  | 88 => ⟨S16x192x4096, .f32⟩
  | 89 => ⟨S16x192x4096, .f32⟩
  | 90 => ⟨S_, .f32⟩
  | 91 => ⟨S_, .f32⟩
  | 92 => ⟨S16x192x4096, .f32⟩
  | 93 => ⟨S16x192x4096, .f32⟩
  | 94 => ⟨S16x192x4096, .f32⟩
  | 95 => ⟨S_, .f32⟩
  | 96 => ⟨S16x192x4096, .f32⟩
  | 97 => ⟨S16x192x4096, .f32⟩
  | 98 => ⟨S16x192x4096, .f32⟩
  | 99 => ⟨S1x192x192x1, .f32⟩
  | 100 => ⟨S192x192x1, .f32⟩
  | 101 => ⟨S1x192, .f32⟩
  | 102 => ⟨S192, .f32⟩
  | 103 => ⟨S192x192, .f32⟩
  | 104 => ⟨S16x4096x192, .f32⟩
  | 105 => ⟨S16x192x4096, .f32⟩
  | 106 => ⟨S1x192x1, .f32⟩
  | 107 => ⟨S16x192x4096, .f32⟩
  | 108 => ⟨S16x192x4096, .f32⟩
  | 109 => ⟨S1x192, .f32⟩
  | 110 => ⟨S192, .f32⟩
  | 111 => ⟨S1x192, .f32⟩
  | 112 => ⟨S192, .f32⟩
  | 113 => ⟨S_, .f32⟩
  | 114 => ⟨S16x4096, .f32⟩
  | 115 => ⟨S16x1x4096, .f32⟩
  | 116 => ⟨S_, .f32⟩
  | 117 => ⟨S16x1x4096, .f32⟩
  | 118 => ⟨S16x1x4096, .f32⟩
  | 119 => ⟨S16x192x4096, .f32⟩
  | 120 => ⟨S16x192x4096, .f32⟩
  | 121 => ⟨S16x192x4096, .f32⟩
  | 122 => ⟨S_, .f32⟩
  | 123 => ⟨S16x4096, .f32⟩
  | 124 => ⟨S16x1x4096, .f32⟩
  | 125 => ⟨S_, .f32⟩
  | 126 => ⟨S16x1x4096, .f32⟩
  | 127 => ⟨S16x1x4096, .f32⟩
  | _ => ⟨S16x2x4096, .f32⟩

abbrev hbmTy0_1 (i : Nat) : BufTy := match i % 128 with
  | 0 => ⟨S16x192x4096, .f32⟩
  | 1 => ⟨S16x192x4096, .f32⟩
  | 2 => ⟨S_, .f32⟩
  | 3 => ⟨S16x1x4096, .f32⟩
  | 4 => ⟨S16x1x4096, .f32⟩
  | 5 => ⟨S16x1x4096, .f32⟩
  | 6 => ⟨S16x192x4096, .f32⟩
  | 7 => ⟨S16x192x4096, .f32⟩
  | 8 => ⟨S1x192x1, .f32⟩
  | 9 => ⟨S16x192x4096, .f32⟩
  | 10 => ⟨S16x192x4096, .f32⟩
  | 11 => ⟨S1x192x1, .f32⟩
  | 12 => ⟨S16x192x4096, .f32⟩
  | 13 => ⟨S16x192x4096, .f32⟩
  | 14 => ⟨S_, .f32⟩
  | 15 => ⟨S16x192x4096, .f32⟩
  | 16 => ⟨S16x192x4096, .f32⟩
  | 17 => ⟨S_, .f32⟩
  | 18 => ⟨S_, .f32⟩
  | 19 => ⟨S16x192x4096, .f32⟩
  | 20 => ⟨S16x192x4096, .f32⟩
  | 21 => ⟨S16x192x4096, .f32⟩
  | 22 => ⟨S_, .f32⟩
  | 23 => ⟨S16x192x4096, .f32⟩
  | 24 => ⟨S16x192x4096, .f32⟩
  | 25 => ⟨S16x192x4096, .f32⟩
  | 26 => ⟨S16x192x4096, .f32⟩
  | 27 => ⟨S16x192x4096, .f32⟩
  | 28 => ⟨S16x192x4096, .f32⟩
  | 29 => ⟨S1x192x1x3, .f32⟩
  | 30 => ⟨S192x1x3, .f32⟩
  | 31 => ⟨S1x192, .f32⟩
  | 32 => ⟨S192, .f32⟩
  | 33 => ⟨S_, .i32⟩
  | 34 => ⟨S_, .f32⟩
  | 35 => ⟨S16x192x4102, .f32⟩
  | 36 => ⟨S16x192x4096, .f32⟩
  | 37 => ⟨S192x1x1, .f32⟩
  | 38 => ⟨S192, .f32⟩
  | 39 => ⟨S1x192x1, .f32⟩
  | 40 => ⟨S16x192x4096, .f32⟩
  | 41 => ⟨S16x192x4096, .f32⟩
  | 42 => ⟨S16x192x4096, .f32⟩
  | 43 => ⟨S192x1x1, .f32⟩
  | 44 => ⟨S192, .f32⟩
  | 45 => ⟨S1x192x1, .f32⟩
  | 46 => ⟨S16x192x4096, .f32⟩
  | 47 => ⟨S16x192x4096, .f32⟩
  | 48 => ⟨S16x192x4096, .f32⟩
  | 49 => ⟨S192x1x1, .f32⟩
  | 50 => ⟨S192, .f32⟩
  | 51 => ⟨S1x192x1, .f32⟩
  | 52 => ⟨S16x192x4096, .f32⟩
  | 53 => ⟨S16x192x4096, .f32⟩
  | 54 => ⟨S16x192x4096, .f32⟩
  | 55 => ⟨S16x192x4096, .f32⟩
  | 56 => ⟨S1x192x1, .f32⟩
  | 57 => ⟨S16x192x4096, .f32⟩
  | 58 => ⟨S16x192x4096, .f32⟩
  | 59 => ⟨S1x192, .f32⟩
  | 60 => ⟨S192, .f32⟩
  | 61 => ⟨S1x192, .f32⟩
  | 62 => ⟨S192, .f32⟩
  | 63 => ⟨S_, .f32⟩
  | 64 => ⟨S16x4096, .f32⟩
  | 65 => ⟨S16x1x4096, .f32⟩
  | 66 => ⟨S_, .f32⟩
  | 67 => ⟨S16x1x4096, .f32⟩
  | 68 => ⟨S16x1x4096, .f32⟩
  | 69 => ⟨S16x192x4096, .f32⟩
  | 70 => ⟨S16x192x4096, .f32⟩
  | 71 => ⟨S16x192x4096, .f32⟩
  | 72 => ⟨S_, .f32⟩
  | 73 => ⟨S16x4096, .f32⟩
  | 74 => ⟨S16x1x4096, .f32⟩
  | 75 => ⟨S_, .f32⟩
  | 76 => ⟨S16x1x4096, .f32⟩
  | 77 => ⟨S16x1x4096, .f32⟩
  | 78 => ⟨S16x192x4096, .f32⟩
  | 79 => ⟨S16x192x4096, .f32⟩
  | 80 => ⟨S_, .f32⟩
  | 81 => ⟨S16x1x4096, .f32⟩
  | 82 => ⟨S16x1x4096, .f32⟩
  | 83 => ⟨S16x1x4096, .f32⟩
  | 84 => ⟨S16x192x4096, .f32⟩
  | 85 => ⟨S16x192x4096, .f32⟩
  | 86 => ⟨S1x192x1, .f32⟩
  | 87 => ⟨S16x192x4096, .f32⟩
  | 88 => ⟨S16x192x4096, .f32⟩
  | 89 => ⟨S1x192x1, .f32⟩
  | 90 => ⟨S16x192x4096, .f32⟩
  | 91 => ⟨S16x192x4096, .f32⟩
  | 92 => ⟨S_, .f32⟩
  | 93 => ⟨S16x192x4096, .f32⟩
  | 94 => ⟨S16x192x4096, .f32⟩
  | 95 => ⟨S_, .f32⟩
  | 96 => ⟨S_, .f32⟩
  | 97 => ⟨S16x192x4096, .f32⟩
  | 98 => ⟨S16x192x4096, .f32⟩
  | 99 => ⟨S16x192x4096, .f32⟩
  | 100 => ⟨S_, .f32⟩
  | 101 => ⟨S16x192x4096, .f32⟩
  | 102 => ⟨S16x192x4096, .f32⟩
  | 103 => ⟨S16x192x4096, .f32⟩
  | 104 => ⟨S1x192x192x1, .f32⟩
  | 105 => ⟨S192x192x1, .f32⟩
  | 106 => ⟨S1x192, .f32⟩
  | 107 => ⟨S192, .f32⟩
  | 108 => ⟨S192x192, .f32⟩
  | 109 => ⟨S16x4096x192, .f32⟩
  | 110 => ⟨S16x192x4096, .f32⟩
  | 111 => ⟨S1x192x1, .f32⟩
  | 112 => ⟨S16x192x4096, .f32⟩
  | 113 => ⟨S16x192x4096, .f32⟩
  | 114 => ⟨S1x192, .f32⟩
  | 115 => ⟨S192, .f32⟩
  | 116 => ⟨S1x192, .f32⟩
  | 117 => ⟨S192, .f32⟩
  | 118 => ⟨S_, .f32⟩
  | 119 => ⟨S16x4096, .f32⟩
  | 120 => ⟨S16x1x4096, .f32⟩
  | 121 => ⟨S_, .f32⟩
  | 122 => ⟨S16x1x4096, .f32⟩
  | 123 => ⟨S16x1x4096, .f32⟩
  | 124 => ⟨S16x192x4096, .f32⟩
  | 125 => ⟨S16x192x4096, .f32⟩
  | 126 => ⟨S16x192x4096, .f32⟩
  | 127 => ⟨S_, .f32⟩
  | _ => ⟨S16x2x4096, .f32⟩

abbrev hbmTy0_2 (i : Nat) : BufTy := match i % 128 with
  | 0 => ⟨S16x4096, .f32⟩
  | 1 => ⟨S16x1x4096, .f32⟩
  | 2 => ⟨S_, .f32⟩
  | 3 => ⟨S16x1x4096, .f32⟩
  | 4 => ⟨S16x1x4096, .f32⟩
  | 5 => ⟨S16x192x4096, .f32⟩
  | 6 => ⟨S16x192x4096, .f32⟩
  | 7 => ⟨S_, .f32⟩
  | 8 => ⟨S16x1x4096, .f32⟩
  | 9 => ⟨S16x1x4096, .f32⟩
  | 10 => ⟨S16x1x4096, .f32⟩
  | 11 => ⟨S16x192x4096, .f32⟩
  | 12 => ⟨S16x192x4096, .f32⟩
  | 13 => ⟨S1x192x1, .f32⟩
  | 14 => ⟨S16x192x4096, .f32⟩
  | 15 => ⟨S16x192x4096, .f32⟩
  | 16 => ⟨S1x192x1, .f32⟩
  | 17 => ⟨S16x192x4096, .f32⟩
  | 18 => ⟨S16x192x4096, .f32⟩
  | 19 => ⟨S_, .f32⟩
  | 20 => ⟨S16x192x4096, .f32⟩
  | 21 => ⟨S16x192x4096, .f32⟩
  | 22 => ⟨S_, .f32⟩
  | 23 => ⟨S_, .f32⟩
  | 24 => ⟨S16x192x4096, .f32⟩
  | 25 => ⟨S16x192x4096, .f32⟩
  | 26 => ⟨S16x192x4096, .f32⟩
  | 27 => ⟨S_, .f32⟩
  | 28 => ⟨S16x192x4096, .f32⟩
  | 29 => ⟨S16x192x4096, .f32⟩
  | 30 => ⟨S16x192x4096, .f32⟩
  | 31 => ⟨S16x192x4096, .f32⟩
  | 32 => ⟨S16x192x4096, .f32⟩
  | 33 => ⟨S16x192x4096, .f32⟩
  | 34 => ⟨S1x192x1x3, .f32⟩
  | 35 => ⟨S192x1x3, .f32⟩
  | 36 => ⟨S1x192, .f32⟩
  | 37 => ⟨S192, .f32⟩
  | 38 => ⟨S_, .i32⟩
  | 39 => ⟨S_, .f32⟩
  | 40 => ⟨S16x192x4114, .f32⟩
  | 41 => ⟨S16x192x4096, .f32⟩
  | 42 => ⟨S192x1x1, .f32⟩
  | 43 => ⟨S192, .f32⟩
  | 44 => ⟨S1x192x1, .f32⟩
  | 45 => ⟨S16x192x4096, .f32⟩
  | 46 => ⟨S16x192x4096, .f32⟩
  | 47 => ⟨S16x192x4096, .f32⟩
  | 48 => ⟨S192x1x1, .f32⟩
  | 49 => ⟨S192, .f32⟩
  | 50 => ⟨S1x192x1, .f32⟩
  | 51 => ⟨S16x192x4096, .f32⟩
  | 52 => ⟨S16x192x4096, .f32⟩
  | 53 => ⟨S16x192x4096, .f32⟩
  | 54 => ⟨S192x1x1, .f32⟩
  | 55 => ⟨S192, .f32⟩
  | 56 => ⟨S1x192x1, .f32⟩
  | 57 => ⟨S16x192x4096, .f32⟩
  | 58 => ⟨S16x192x4096, .f32⟩
  | 59 => ⟨S16x192x4096, .f32⟩
  | 60 => ⟨S16x192x4096, .f32⟩
  | 61 => ⟨S1x192x1, .f32⟩
  | 62 => ⟨S16x192x4096, .f32⟩
  | 63 => ⟨S16x192x4096, .f32⟩
  | 64 => ⟨S1x192, .f32⟩
  | 65 => ⟨S192, .f32⟩
  | 66 => ⟨S1x192, .f32⟩
  | 67 => ⟨S192, .f32⟩
  | 68 => ⟨S_, .f32⟩
  | 69 => ⟨S16x4096, .f32⟩
  | 70 => ⟨S16x1x4096, .f32⟩
  | 71 => ⟨S_, .f32⟩
  | 72 => ⟨S16x1x4096, .f32⟩
  | 73 => ⟨S16x1x4096, .f32⟩
  | 74 => ⟨S16x192x4096, .f32⟩
  | 75 => ⟨S16x192x4096, .f32⟩
  | 76 => ⟨S16x192x4096, .f32⟩
  | 77 => ⟨S_, .f32⟩
  | 78 => ⟨S16x4096, .f32⟩
  | 79 => ⟨S16x1x4096, .f32⟩
  | 80 => ⟨S_, .f32⟩
  | 81 => ⟨S16x1x4096, .f32⟩
  | 82 => ⟨S16x1x4096, .f32⟩
  | 83 => ⟨S16x192x4096, .f32⟩
  | 84 => ⟨S16x192x4096, .f32⟩
  | 85 => ⟨S_, .f32⟩
  | 86 => ⟨S16x1x4096, .f32⟩
  | 87 => ⟨S16x1x4096, .f32⟩
  | 88 => ⟨S16x1x4096, .f32⟩
  | 89 => ⟨S16x192x4096, .f32⟩
  | 90 => ⟨S16x192x4096, .f32⟩
  | 91 => ⟨S1x192x1, .f32⟩
  | 92 => ⟨S16x192x4096, .f32⟩
  | 93 => ⟨S16x192x4096, .f32⟩
  | 94 => ⟨S1x192x1, .f32⟩
  | 95 => ⟨S16x192x4096, .f32⟩
  | 96 => ⟨S16x192x4096, .f32⟩
  | 97 => ⟨S_, .f32⟩
  | 98 => ⟨S16x192x4096, .f32⟩
  | 99 => ⟨S16x192x4096, .f32⟩
  | 100 => ⟨S_, .f32⟩
  | 101 => ⟨S_, .f32⟩
  | 102 => ⟨S16x192x4096, .f32⟩
  | 103 => ⟨S16x192x4096, .f32⟩
  | 104 => ⟨S16x192x4096, .f32⟩
  | 105 => ⟨S_, .f32⟩
  | 106 => ⟨S16x192x4096, .f32⟩
  | 107 => ⟨S16x192x4096, .f32⟩
  | 108 => ⟨S16x192x4096, .f32⟩
  | 109 => ⟨S1x192x192x1, .f32⟩
  | 110 => ⟨S192x192x1, .f32⟩
  | 111 => ⟨S1x192, .f32⟩
  | 112 => ⟨S192, .f32⟩
  | 113 => ⟨S192x192, .f32⟩
  | 114 => ⟨S16x4096x192, .f32⟩
  | 115 => ⟨S16x192x4096, .f32⟩
  | 116 => ⟨S1x192x1, .f32⟩
  | 117 => ⟨S16x192x4096, .f32⟩
  | 118 => ⟨S16x192x4096, .f32⟩
  | 119 => ⟨S1x192, .f32⟩
  | 120 => ⟨S192, .f32⟩
  | 121 => ⟨S1x192, .f32⟩
  | 122 => ⟨S192, .f32⟩
  | 123 => ⟨S_, .f32⟩
  | 124 => ⟨S16x4096, .f32⟩
  | 125 => ⟨S16x1x4096, .f32⟩
  | 126 => ⟨S_, .f32⟩
  | 127 => ⟨S16x1x4096, .f32⟩
  | _ => ⟨S16x2x4096, .f32⟩

abbrev hbmTy0_3 (i : Nat) : BufTy := match i % 128 with
  | 0 => ⟨S16x1x4096, .f32⟩
  | 1 => ⟨S16x192x4096, .f32⟩
  | 2 => ⟨S16x192x4096, .f32⟩
  | 3 => ⟨S16x192x4096, .f32⟩
  | 4 => ⟨S_, .f32⟩
  | 5 => ⟨S16x4096, .f32⟩
  | 6 => ⟨S16x1x4096, .f32⟩
  | 7 => ⟨S_, .f32⟩
  | 8 => ⟨S16x1x4096, .f32⟩
  | 9 => ⟨S16x1x4096, .f32⟩
  | 10 => ⟨S16x192x4096, .f32⟩
  | 11 => ⟨S16x192x4096, .f32⟩
  | 12 => ⟨S_, .f32⟩
  | 13 => ⟨S16x1x4096, .f32⟩
  | 14 => ⟨S16x1x4096, .f32⟩
  | 15 => ⟨S16x1x4096, .f32⟩
  | 16 => ⟨S16x192x4096, .f32⟩
  | 17 => ⟨S16x192x4096, .f32⟩
  | 18 => ⟨S1x192x1, .f32⟩
  | 19 => ⟨S16x192x4096, .f32⟩
  | 20 => ⟨S16x192x4096, .f32⟩
  | 21 => ⟨S1x192x1, .f32⟩
  | 22 => ⟨S16x192x4096, .f32⟩
  | 23 => ⟨S16x192x4096, .f32⟩
  | 24 => ⟨S_, .f32⟩
  | 25 => ⟨S16x192x4096, .f32⟩
  | 26 => ⟨S16x192x4096, .f32⟩
  | 27 => ⟨S_, .f32⟩
  | 28 => ⟨S_, .f32⟩
  | 29 => ⟨S16x192x4096, .f32⟩
  | 30 => ⟨S16x192x4096, .f32⟩
  | 31 => ⟨S16x192x4096, .f32⟩
  | 32 => ⟨S_, .f32⟩
  | 33 => ⟨S16x192x4096, .f32⟩
  | 34 => ⟨S16x192x4096, .f32⟩
  | 35 => ⟨S16x192x4096, .f32⟩
  | 36 => ⟨S16x192x4096, .f32⟩
  | 37 => ⟨S16x192x4096, .f32⟩
  | 38 => ⟨S16x192x4096, .f32⟩
  | 39 => ⟨S29x192, .f32⟩
  | 40 => ⟨S16x4096x29, .f32⟩
  | 41 => ⟨S16x29x4096, .f32⟩
  | 42 => ⟨S1x29x1, .f32⟩
  | 43 => ⟨S16x29x4096, .f32⟩
  | 44 => ⟨S16x29x4096, .f32⟩
  | 45 => ⟨S16x29x4096, .f32⟩
  | 46 => ⟨S16x29x4096, .f32⟩
  | 47 => ⟨S16x1x29x4096, .f32⟩
  | 48 => ⟨S16x1x4096x29, .f32⟩
  | 49 => ⟨S16x1x4096x10, .f32⟩
  | 50 => ⟨S_, .f32⟩
  | 51 => ⟨S16x1x4096x10, .f32⟩
  | 52 => ⟨S16x1x4096x10, .f32⟩
  | 53 => ⟨S16x1x4096x10, .f32⟩
  | 54 => ⟨S_, .f32⟩
  | 55 => ⟨S16x1x4096x10, .f32⟩
  | 56 => ⟨S16x1x4096x10, .f32⟩
  | 57 => ⟨S16x1x4096x9, .f32⟩
  | 58 => ⟨S_, .f32⟩
  | 59 => ⟨S16x1x4096, .f32⟩
  | 60 => ⟨S16x1x4096, .i1⟩
  | 61 => ⟨S_, .f32⟩
  | 62 => ⟨S16x1x4096, .f32⟩
  | 63 => ⟨S16x1x4096, .i1⟩
  | 64 => ⟨S16x1x4096, .i1⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S16x1x4096x1, .f32⟩
  | 73 => ⟨S16x1x4096x11, .f32⟩
  | 74 => ⟨S_, .f32⟩
  | 75 => ⟨S16x1x4096x11, .f32⟩
  | 76 => ⟨S16x1x4096x11, .f32⟩
  | 77 => ⟨S16x1x4096x11, .f32⟩
  | 78 => ⟨S16x1x4096x11, .f32⟩
  | 79 => ⟨S16x1x4096x11, .i1⟩
  | 80 => ⟨S16x1x4096x11, .f32⟩
  | 81 => ⟨S16x1x4096x11, .f32⟩
  | 82 => ⟨S16x1x4096x11, .f32⟩
  | 83 => ⟨S16x1x4096x11, .f32⟩
  | 84 => ⟨S16x1x4096x11, .f32⟩
  | 85 => ⟨S16x1x4096x11, .f32⟩
  | 86 => ⟨S16x1x4096x11, .f32⟩
  | 87 => ⟨S16x1x4096x11, .f32⟩
  | 88 => ⟨S_, .f32⟩
  | 89 => ⟨S16x1x4096x11, .f32⟩
  | 90 => ⟨S16x1x4096x11, .f32⟩
  | 91 => ⟨S_, .f32⟩
  | 92 => ⟨S_, .f32⟩
  | 93 => ⟨S_, .f32⟩
  | 94 => ⟨S16x1x4096, .f32⟩
  | 95 => ⟨S16x1x4096, .f32⟩
  | 96 => ⟨S_, .f32⟩
  | 97 => ⟨S16x1x4096, .f32⟩
  | 98 => ⟨S16x1x4096, .f32⟩
  | 99 => ⟨S_, .f32⟩
  | 100 => ⟨S16x1x4096, .f32⟩
  | 101 => ⟨S_, .f32⟩
  | 102 => ⟨S16x1x4096, .f32⟩
  | 103 => ⟨S16x1x4096, .f32⟩
  | 104 => ⟨S16x1x4096x1, .f32⟩
  | 105 => ⟨S16x1x4096x10, .f32⟩
  | 106 => ⟨S16x1x4096x10, .f32⟩
  | 107 => ⟨S16x1x4096x10, .f32⟩
  | 108 => ⟨S_, .f32⟩
  | 109 => ⟨S16x1x4096, .f32⟩
  | 110 => ⟨S16x1x4096x1, .f32⟩
  | 111 => ⟨S16x1x4096x10, .f32⟩
  | 112 => ⟨S16x1x4096x10, .f32⟩
  | 113 => ⟨S_, .f32⟩
  | 114 => ⟨S16x1x4096x10, .f32⟩
  | 115 => ⟨S16x1x4096x10, .f32⟩
  | 116 => ⟨S_, .f32⟩
  | 117 => ⟨S16x1x4096x10, .f32⟩
  | 118 => ⟨S16x1x4096x10, .f32⟩
  | 119 => ⟨S_, .f32⟩
  | 120 => ⟨S_, .f32⟩
  | 121 => ⟨S16x1x4096x10, .f32⟩
  | 122 => ⟨S16x1x4096x9, .f32⟩
  | 123 => ⟨S_, .f32⟩
  | 124 => ⟨S16x1x4096x9, .f32⟩
  | 125 => ⟨S16x1x4096x9, .f32⟩
  | 126 => ⟨S_, .f32⟩
  | 127 => ⟨S16x1x4096x9, .f32⟩
  | _ => ⟨S16x2x4096, .f32⟩

abbrev hbmTy0_4 (i : Nat) : BufTy := match i % 128 with
  | 0 => ⟨S16x1x4096x9, .f32⟩
  | 1 => ⟨S_, .f32⟩
  | 2 => ⟨S16x1x4096x1, .f32⟩
  | 3 => ⟨S_, .f32⟩
  | 4 => ⟨S16x1x4096x1, .f32⟩
  | 5 => ⟨S16x1x4096x1, .f32⟩
  | 6 => ⟨S16x1x4096x1, .f32⟩
  | 7 => ⟨S16x1x4096x11, .f32⟩
  | 8 => ⟨S_, .f32⟩
  | 9 => ⟨S16x1x4096, .f32⟩
  | 10 => ⟨S_, .f32⟩
  | 11 => ⟨S16x1x4096, .f32⟩
  | 12 => ⟨S16x1x4096, .f32⟩
  | 13 => ⟨S16x1x4096x1, .f32⟩
  | 14 => ⟨S16x1x4096x10, .f32⟩
  | 15 => ⟨S16x1x4096x10, .f32⟩
  | 16 => ⟨S16x1x4096x10, .f32⟩
  | 17 => ⟨S_, .f32⟩
  | 18 => ⟨S16x1x4096, .f32⟩
  | 19 => ⟨S16x1x4096x1, .f32⟩
  | 20 => ⟨S16x1x4096x10, .f32⟩
  | 21 => ⟨S16x1x4096x10, .f32⟩
  | 22 => ⟨S_, .f32⟩
  | 23 => ⟨S16x1x4096x10, .f32⟩
  | 24 => ⟨S16x1x4096x10, .f32⟩
  | 25 => ⟨S_, .f32⟩
  | 26 => ⟨S16x1x4096x10, .f32⟩
  | 27 => ⟨S16x1x4096x10, .f32⟩
  | 28 => ⟨S_, .f32⟩
  | 29 => ⟨S_, .f32⟩
  | 30 => ⟨S16x1x4096x10, .f32⟩
  | 31 => ⟨S16x1x4096x9, .f32⟩
  | 32 => ⟨S_, .f32⟩
  | 33 => ⟨S16x1x4096x9, .f32⟩
  | 34 => ⟨S16x1x4096x9, .f32⟩
  | 35 => ⟨S_, .f32⟩
  | 36 => ⟨S16x1x4096x9, .f32⟩
  | 37 => ⟨S16x1x4096x9, .f32⟩
  | 38 => ⟨S_, .f32⟩
  | 39 => ⟨S16x1x4096x1, .f32⟩
  | 40 => ⟨S_, .f32⟩
  | 41 => ⟨S16x1x4096x1, .f32⟩
  | 42 => ⟨S16x1x4096x1, .f32⟩
  | 43 => ⟨S16x1x4096x1, .f32⟩
  | 44 => ⟨S16x1x4096x11, .f32⟩
  | 45 => ⟨S16x1x4096x10, .f32⟩
  | 46 => ⟨S16x1x4096x10, .f32⟩
  | 47 => ⟨S16x1x4096x10, .f32⟩
  | 48 => ⟨S16x1x4096x10, .f32⟩
  | 49 => ⟨S16x1x4096x10, .f32⟩
  | 50 => ⟨S16x1x4096x10, .f32⟩
  | 51 => ⟨S16x1x4096x10, .f32⟩
  | 52 => ⟨S16x1x4096x10, .f32⟩
  | 53 => ⟨S16x1x4096x1, .f32⟩
  | 54 => ⟨S_, .f32⟩
  | 55 => ⟨S16x1x4096x1, .f32⟩
  | 56 => ⟨S16x1x4096x1, .f32⟩
  | 57 => ⟨S16x1x4096x11, .f32⟩
  | 58 => ⟨S16x1x4096x1, .f32⟩
  | 59 => ⟨S16x1x4096x11, .f32⟩
  | 60 => ⟨S16x1x4096x11, .i1⟩
  | 61 => ⟨S16x1x4096x11, .i32⟩
  | 62 => ⟨S_, .i32⟩
  | 63 => ⟨S16x1x4096, .i32⟩
  | 64 => ⟨S_, .i32⟩
  | 65 => ⟨S16x1x4096, .i32⟩
  | 66 => ⟨S16x1x4096, .i32⟩
  | 67 => ⟨S_, .i32⟩
  | 68 => ⟨S_, .i32⟩
  | 69 => ⟨S_, .i32⟩
  | 70 => ⟨S16x1x4096, .i32⟩
  | 71 => ⟨S16x1x4096, .i32⟩
  | 72 => ⟨S_, .i32⟩
  | 73 => ⟨S16x1x4096, .i32⟩
  | 74 => ⟨S16x1x4096, .i32⟩
  | 75 => ⟨S16x1x4096x1, .i32⟩
  | 76 => ⟨S_, .i32⟩
  | 77 => ⟨S16x1x4096x1, .i32⟩
  | 78 => ⟨S16x1x4096x1, .i1⟩
  | 79 => ⟨S_, .i32⟩
  | 80 => ⟨S16x1x4096x1, .i32⟩
  | 81 => ⟨S16x1x4096x1, .i32⟩
  | 82 => ⟨S16x1x4096x1, .i32⟩
  | 83 => ⟨S16x4096x1x1, .i32⟩
  | 84 => ⟨S16x1x4096x1, .f32⟩
  | 85 => ⟨S16x1x4096, .f32⟩
  | 86 => ⟨S_, .i32⟩
  | 87 => ⟨S16x1x4096x1, .i32⟩
  | 88 => ⟨S16x1x4096x1, .i1⟩
  | 89 => ⟨S_, .i32⟩
  | 90 => ⟨S16x1x4096x1, .i32⟩
  | 91 => ⟨S16x1x4096x1, .i32⟩
  | 92 => ⟨S16x1x4096x1, .i32⟩
  | 93 => ⟨S16x4096x1x1, .i32⟩
  | 94 => ⟨S16x1x4096x1, .f32⟩
  | 95 => ⟨S16x1x4096, .f32⟩
  | 96 => ⟨S_, .i32⟩
  | 97 => ⟨S16x1x4096x1, .i32⟩
  | 98 => ⟨S16x1x4096x1, .i1⟩
  | 99 => ⟨S_, .i32⟩
  | 100 => ⟨S16x1x4096x1, .i32⟩
  | 101 => ⟨S16x1x4096x1, .i32⟩
  | 102 => ⟨S16x1x4096x1, .i32⟩
  | 103 => ⟨S16x4096x1x1, .i32⟩
  | 104 => ⟨S16x1x4096x1, .f32⟩
  | 105 => ⟨S16x1x4096, .f32⟩
  | 106 => ⟨S_, .i32⟩
  | 107 => ⟨S16x1x4096x1, .i32⟩
  | 108 => ⟨S16x1x4096x1, .i1⟩
  | 109 => ⟨S_, .i32⟩
  | 110 => ⟨S16x1x4096x1, .i32⟩
  | 111 => ⟨S16x1x4096x1, .i32⟩
  | 112 => ⟨S16x1x4096x1, .i32⟩
  | 113 => ⟨S16x4096x1x1, .i32⟩
  | 114 => ⟨S16x1x4096x1, .f32⟩
  | 115 => ⟨S16x1x4096, .f32⟩
  | 116 => ⟨S_, .i32⟩
  | 117 => ⟨S16x1x4096x1, .i32⟩
  | 118 => ⟨S16x1x4096x1, .i1⟩
  | 119 => ⟨S_, .i32⟩
  | 120 => ⟨S16x1x4096x1, .i32⟩
  | 121 => ⟨S16x1x4096x1, .i32⟩
  | 122 => ⟨S16x1x4096x1, .i32⟩
  | 123 => ⟨S16x4096x1x1, .i32⟩
  | 124 => ⟨S16x1x4096x1, .f32⟩
  | 125 => ⟨S16x1x4096, .f32⟩
  | 126 => ⟨S16x1x4096x10, .f32⟩
  | 127 => ⟨S_, .i32⟩
  | _ => ⟨S16x2x4096, .f32⟩

abbrev hbmTy0_5 (i : Nat) : BufTy := match i % 128 with
  | 0 => ⟨S16x1x4096x1, .i32⟩
  | 1 => ⟨S16x1x4096x1, .i1⟩
  | 2 => ⟨S_, .i32⟩
  | 3 => ⟨S16x1x4096x1, .i32⟩
  | 4 => ⟨S16x1x4096x1, .i32⟩
  | 5 => ⟨S16x1x4096x1, .i32⟩
  | 6 => ⟨S16x4096x1x1, .i32⟩
  | 7 => ⟨S16x1x4096x1, .f32⟩
  | 8 => ⟨S16x1x4096, .f32⟩
  | 9 => ⟨S_, .i32⟩
  | 10 => ⟨S16x1x4096x1, .i32⟩
  | 11 => ⟨S16x1x4096x1, .i1⟩
  | 12 => ⟨S_, .i32⟩
  | 13 => ⟨S16x1x4096x1, .i32⟩
  | 14 => ⟨S16x1x4096x1, .i32⟩
  | 15 => ⟨S16x1x4096x1, .i32⟩
  | 16 => ⟨S16x4096x1x1, .i32⟩
  | 17 => ⟨S16x1x4096x1, .f32⟩
  | 18 => ⟨S16x1x4096, .f32⟩
  | 19 => ⟨S16x1x4096, .f32⟩
  | 20 => ⟨S16x1x4096, .f32⟩
  | 21 => ⟨S_, .f32⟩
  | 22 => ⟨S16x1x4096, .f32⟩
  | 23 => ⟨S16x1x4096, .f32⟩
  | 24 => ⟨S16x1x4096, .f32⟩
  | 25 => ⟨S16x1x4096, .f32⟩
  | 26 => ⟨S16x1x4096, .f32⟩
  | 27 => ⟨S16x1x4096, .f32⟩
  | 28 => ⟨S16x1x4096, .f32⟩
  | 29 => ⟨S16x1x4096, .f32⟩
  | 30 => ⟨S16x1x4096, .f32⟩
  | 31 => ⟨S_, .f32⟩
  | 32 => ⟨S16x1x4096, .f32⟩
  | 33 => ⟨S16x1x4096, .f32⟩
  | 34 => ⟨S16x1x4096, .f32⟩
  | 35 => ⟨S16x1x4096, .f32⟩
  | 36 => ⟨S16x1x4096, .f32⟩
  | 37 => ⟨S16x1x4096, .f32⟩
  | 38 => ⟨S16x1x4096, .f32⟩
  | 39 => ⟨S16x1x4096, .f32⟩
  | 40 => ⟨S16x1x4096, .f32⟩
  | 41 => ⟨S16x1x4096, .f32⟩
  | 42 => ⟨S_, .f32⟩
  | 43 => ⟨S16x1x4096, .f32⟩
  | 44 => ⟨S16x1x4096, .f32⟩
  | 45 => ⟨S16x1x4096, .f32⟩
  | 46 => ⟨S16x1x4096, .f32⟩
  | 47 => ⟨S_, .f32⟩
  | 48 => ⟨S16x1x4096, .f32⟩
  | 49 => ⟨S16x1x4096, .f32⟩
  | 50 => ⟨S16x1x4096, .f32⟩
  | 51 => ⟨S16x1x4096, .f32⟩
  | 52 => ⟨S16x1x4096, .f32⟩
  | 53 => ⟨S16x1x4096, .f32⟩
  | 54 => ⟨S16x1x4096, .f32⟩
  | 55 => ⟨S16x1x4096, .f32⟩
  | 56 => ⟨S_, .f32⟩
  | 57 => ⟨S16x1x4096, .f32⟩
  | 58 => ⟨S16x1x4096, .f32⟩
  | 59 => ⟨S16x1x4096, .f32⟩
  | 60 => ⟨S16x1x4096, .f32⟩
  | 61 => ⟨S_, .f32⟩
  | 62 => ⟨S_, .f32⟩
  | 63 => ⟨S16x1x4096, .f32⟩
  | 64 => ⟨S16x1x4096, .f32⟩
  | 65 => ⟨S16x2x4096, .f32⟩
  | 66 => ⟨S16x2x4096, .f32⟩
  | 67 => ⟨S16x2x4096, .f32⟩
  | 68 => ⟨S16x1x4096, .f32⟩
  | 69 => ⟨S_, .f32⟩
  | 70 => ⟨S16, .f32⟩
  | _ => ⟨S16x2x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S16x2x4096, .f32⟩

abbrev bufTy : (tb : Table) → Fin (tcTables nBuf tb) → BufTy
  | .hbm, ⟨i, _⟩ => hbmTy i
  | _, _ => ⟨S16x2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_call0_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst : Ref sig .tc := ⟨.hbm, 58, rfl⟩
abbrev main_v42 : Ref sig .tc := ⟨.hbm, 59, rfl⟩
abbrev main_v43 : Ref sig .tc := ⟨.hbm, 60, rfl⟩
abbrev main_cst_0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_1 : Ref sig .tc := ⟨.hbm, 67, rfl⟩
abbrev main_v49 : Ref sig .tc := ⟨.hbm, 68, rfl⟩
abbrev main_v50 : Ref sig .tc := ⟨.hbm, 69, rfl⟩
abbrev main_cst_2 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_3 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_4 : Ref sig .tc := ⟨.hbm, 87, rfl⟩
abbrev main_v66 : Ref sig .tc := ⟨.hbm, 88, rfl⟩
abbrev main_v67 : Ref sig .tc := ⟨.hbm, 89, rfl⟩
abbrev main_cst_5 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_6 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_7 : Ref sig .tc := ⟨.hbm, 113, rfl⟩
abbrev main_v89 : Ref sig .tc := ⟨.hbm, 114, rfl⟩
abbrev main_v90 : Ref sig .tc := ⟨.hbm, 115, rfl⟩
abbrev main_cst_8 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_9 : Ref sig .tc := ⟨.hbm, 122, rfl⟩
abbrev main_v96 : Ref sig .tc := ⟨.hbm, 123, rfl⟩
abbrev main_v97 : Ref sig .tc := ⟨.hbm, 124, rfl⟩
abbrev main_cst_10 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_11 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_12 : Ref sig .tc := ⟨.hbm, 142, rfl⟩
abbrev main_v113 : Ref sig .tc := ⟨.hbm, 143, rfl⟩
abbrev main_v114 : Ref sig .tc := ⟨.hbm, 144, rfl⟩
abbrev main_cst_13 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_14 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_c_15 : Ref sig .tc := ⟨.hbm, 161, rfl⟩
abbrev main_call1_v0 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_cst_16 : Ref sig .tc := ⟨.hbm, 191, rfl⟩
abbrev main_v157 : Ref sig .tc := ⟨.hbm, 192, rfl⟩
abbrev main_v158 : Ref sig .tc := ⟨.hbm, 193, rfl⟩
abbrev main_cst_17 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_cst_18 : Ref sig .tc := ⟨.hbm, 200, rfl⟩
abbrev main_v164 : Ref sig .tc := ⟨.hbm, 201, rfl⟩
abbrev main_v165 : Ref sig .tc := ⟨.hbm, 202, rfl⟩
abbrev main_cst_19 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_cst_20 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_cst_21 : Ref sig .tc := ⟨.hbm, 220, rfl⟩
abbrev main_v181 : Ref sig .tc := ⟨.hbm, 221, rfl⟩
abbrev main_v182 : Ref sig .tc := ⟨.hbm, 222, rfl⟩
abbrev main_cst_22 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_cst_23 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_cst_24 : Ref sig .tc := ⟨.hbm, 246, rfl⟩
abbrev main_v204 : Ref sig .tc := ⟨.hbm, 247, rfl⟩
abbrev main_v205 : Ref sig .tc := ⟨.hbm, 248, rfl⟩
abbrev main_cst_25 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_cst_26 : Ref sig .tc := ⟨.hbm, 255, rfl⟩
abbrev main_v211 : Ref sig .tc := ⟨.hbm, 256, rfl⟩
abbrev main_v212 : Ref sig .tc := ⟨.hbm, 257, rfl⟩
abbrev main_cst_27 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_cst_28 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_cst_29 : Ref sig .tc := ⟨.hbm, 275, rfl⟩
abbrev main_v228 : Ref sig .tc := ⟨.hbm, 276, rfl⟩
abbrev main_v229 : Ref sig .tc := ⟨.hbm, 277, rfl⟩
abbrev main_cst_30 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_cst_31 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_c_32 : Ref sig .tc := ⟨.hbm, 294, rfl⟩
abbrev main_call2_v0 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_v252 : Ref sig .tc := ⟨.hbm, 304, rfl⟩
abbrev main_v253 : Ref sig .tc := ⟨.hbm, 305, rfl⟩
abbrev main_v254 : Ref sig .tc := ⟨.hbm, 306, rfl⟩
abbrev main_v255 : Ref sig .tc := ⟨.hbm, 307, rfl⟩
abbrev main_v256 : Ref sig .tc := ⟨.hbm, 308, rfl⟩
abbrev main_v257 : Ref sig .tc := ⟨.hbm, 309, rfl⟩
abbrev main_v258 : Ref sig .tc := ⟨.hbm, 310, rfl⟩
abbrev main_v259 : Ref sig .tc := ⟨.hbm, 311, rfl⟩
abbrev main_v260 : Ref sig .tc := ⟨.hbm, 312, rfl⟩
abbrev main_v261 : Ref sig .tc := ⟨.hbm, 313, rfl⟩
abbrev main_v262 : Ref sig .tc := ⟨.hbm, 314, rfl⟩
abbrev main_v263 : Ref sig .tc := ⟨.hbm, 315, rfl⟩
abbrev main_v264 : Ref sig .tc := ⟨.hbm, 316, rfl⟩
abbrev main_v265 : Ref sig .tc := ⟨.hbm, 317, rfl⟩
abbrev main_v266 : Ref sig .tc := ⟨.hbm, 318, rfl⟩
abbrev main_v267 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_cst_33 : Ref sig .tc := ⟨.hbm, 324, rfl⟩
abbrev main_v272 : Ref sig .tc := ⟨.hbm, 325, rfl⟩
abbrev main_v273 : Ref sig .tc := ⟨.hbm, 326, rfl⟩
abbrev main_cst_34 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_cst_35 : Ref sig .tc := ⟨.hbm, 333, rfl⟩
abbrev main_v279 : Ref sig .tc := ⟨.hbm, 334, rfl⟩
abbrev main_v280 : Ref sig .tc := ⟨.hbm, 335, rfl⟩
abbrev main_cst_36 : Ref sig .tc := ⟨.hbm, 336, rfl⟩
abbrev main_v281 : Ref sig .tc := ⟨.hbm, 337, rfl⟩
abbrev main_v282 : Ref sig .tc := ⟨.hbm, 338, rfl⟩
abbrev main_v283 : Ref sig .tc := ⟨.hbm, 339, rfl⟩
abbrev main_v284 : Ref sig .tc := ⟨.hbm, 340, rfl⟩
abbrev main_cst_37 : Ref sig .tc := ⟨.hbm, 341, rfl⟩
abbrev main_v285 : Ref sig .tc := ⟨.hbm, 342, rfl⟩
abbrev main_v286 : Ref sig .tc := ⟨.hbm, 343, rfl⟩
abbrev main_v287 : Ref sig .tc := ⟨.hbm, 344, rfl⟩
abbrev main_v288 : Ref sig .tc := ⟨.hbm, 345, rfl⟩
abbrev main_v289 : Ref sig .tc := ⟨.hbm, 346, rfl⟩
abbrev main_v290 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_v294 : Ref sig .tc := ⟨.hbm, 351, rfl⟩
abbrev main_v295 : Ref sig .tc := ⟨.hbm, 352, rfl⟩
abbrev main_cst_38 : Ref sig .tc := ⟨.hbm, 353, rfl⟩
abbrev main_v296 : Ref sig .tc := ⟨.hbm, 354, rfl⟩
abbrev main_v297 : Ref sig .tc := ⟨.hbm, 355, rfl⟩
abbrev main_cst_39 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_cst_40 : Ref sig .tc := ⟨.hbm, 361, rfl⟩
abbrev main_v302 : Ref sig .tc := ⟨.hbm, 362, rfl⟩
abbrev main_v303 : Ref sig .tc := ⟨.hbm, 363, rfl⟩
abbrev main_v304 : Ref sig .tc := ⟨.hbm, 364, rfl⟩
abbrev main_v305 : Ref sig .tc := ⟨.hbm, 365, rfl⟩
abbrev main_v306 : Ref sig .tc := ⟨.hbm, 366, rfl⟩
abbrev main_v307 : Ref sig .tc := ⟨.hbm, 367, rfl⟩
abbrev main_v308 : Ref sig .tc := ⟨.hbm, 368, rfl⟩
abbrev main_v309 : Ref sig .tc := ⟨.hbm, 369, rfl⟩
abbrev main_v310 : Ref sig .tc := ⟨.hbm, 370, rfl⟩
abbrev main_v311 : Ref sig .tc := ⟨.hbm, 371, rfl⟩
abbrev main_v312 : Ref sig .tc := ⟨.hbm, 372, rfl⟩
abbrev main_v313 : Ref sig .tc := ⟨.hbm, 373, rfl⟩
abbrev main_v314 : Ref sig .tc := ⟨.hbm, 374, rfl⟩
abbrev main_v315 : Ref sig .tc := ⟨.hbm, 375, rfl⟩
abbrev main_v316 : Ref sig .tc := ⟨.hbm, 376, rfl⟩
abbrev main_v317 : Ref sig .tc := ⟨.hbm, 377, rfl⟩
abbrev main_v318 : Ref sig .tc := ⟨.hbm, 378, rfl⟩
abbrev main_cst_41 : Ref sig .tc := ⟨.hbm, 379, rfl⟩
abbrev main_v319 : Ref sig .tc := ⟨.hbm, 380, rfl⟩
abbrev main_v320 : Ref sig .tc := ⟨.hbm, 381, rfl⟩
abbrev main_cst_42 : Ref sig .tc := ⟨.hbm, 382, rfl⟩
abbrev main_v321 : Ref sig .tc := ⟨.hbm, 383, rfl⟩
abbrev main_v322 : Ref sig .tc := ⟨.hbm, 384, rfl⟩
abbrev main_v323 : Ref sig .tc := ⟨.hbm, 385, rfl⟩
abbrev main_v324 : Ref sig .tc := ⟨.hbm, 386, rfl⟩
abbrev main_v325 : Ref sig .tc := ⟨.hbm, 387, rfl⟩
abbrev main_cst_43 : Ref sig .tc := ⟨.hbm, 388, rfl⟩
abbrev main_v326 : Ref sig .tc := ⟨.hbm, 389, rfl⟩
abbrev main_v327 : Ref sig .tc := ⟨.hbm, 390, rfl⟩
abbrev main_cst_44 : Ref sig .tc := ⟨.hbm, 391, rfl⟩
abbrev main_v328 : Ref sig .tc := ⟨.hbm, 392, rfl⟩
abbrev main_v329 : Ref sig .tc := ⟨.hbm, 393, rfl⟩
abbrev main_v330 : Ref sig .tc := ⟨.hbm, 394, rfl⟩
abbrev main_v331 : Ref sig .tc := ⟨.hbm, 395, rfl⟩
abbrev main_cst_45 : Ref sig .tc := ⟨.hbm, 396, rfl⟩
abbrev main_v332 : Ref sig .tc := ⟨.hbm, 397, rfl⟩
abbrev main_v333 : Ref sig .tc := ⟨.hbm, 398, rfl⟩
abbrev main_v334 : Ref sig .tc := ⟨.hbm, 399, rfl⟩
abbrev main_v335 : Ref sig .tc := ⟨.hbm, 400, rfl⟩
abbrev main_v336 : Ref sig .tc := ⟨.hbm, 401, rfl⟩
abbrev main_v337 : Ref sig .tc := ⟨.hbm, 402, rfl⟩
abbrev main_v338 : Ref sig .tc := ⟨.hbm, 403, rfl⟩
abbrev main_v339 : Ref sig .tc := ⟨.hbm, 404, rfl⟩
abbrev main_v340 : Ref sig .tc := ⟨.hbm, 405, rfl⟩
abbrev main_v341 : Ref sig .tc := ⟨.hbm, 406, rfl⟩
abbrev main_v342 : Ref sig .tc := ⟨.hbm, 407, rfl⟩
abbrev main_cst_46 : Ref sig .tc := ⟨.hbm, 408, rfl⟩
abbrev main_v343 : Ref sig .tc := ⟨.hbm, 409, rfl⟩
abbrev main_v344 : Ref sig .tc := ⟨.hbm, 410, rfl⟩
abbrev main_cst_47 : Ref sig .tc := ⟨.hbm, 411, rfl⟩
abbrev main_v345 : Ref sig .tc := ⟨.hbm, 412, rfl⟩
abbrev main_v346 : Ref sig .tc := ⟨.hbm, 413, rfl⟩
abbrev main_v347 : Ref sig .tc := ⟨.hbm, 414, rfl⟩
abbrev main_v348 : Ref sig .tc := ⟨.hbm, 415, rfl⟩
abbrev main_cst_48 : Ref sig .tc := ⟨.hbm, 416, rfl⟩
abbrev main_v349 : Ref sig .tc := ⟨.hbm, 417, rfl⟩
abbrev main_v350 : Ref sig .tc := ⟨.hbm, 418, rfl⟩
abbrev main_v351 : Ref sig .tc := ⟨.hbm, 419, rfl⟩
abbrev main_v352 : Ref sig .tc := ⟨.hbm, 420, rfl⟩
abbrev main_v353 : Ref sig .tc := ⟨.hbm, 421, rfl⟩
abbrev main_v354 : Ref sig .tc := ⟨.hbm, 422, rfl⟩
abbrev main_v355 : Ref sig .tc := ⟨.hbm, 423, rfl⟩
abbrev main_v356 : Ref sig .tc := ⟨.hbm, 424, rfl⟩
abbrev main_v357 : Ref sig .tc := ⟨.hbm, 425, rfl⟩
abbrev main_v358 : Ref sig .tc := ⟨.hbm, 426, rfl⟩
abbrev main_v359 : Ref sig .tc := ⟨.hbm, 427, rfl⟩
abbrev main_v360 : Ref sig .tc := ⟨.hbm, 428, rfl⟩
abbrev main_v361 : Ref sig .tc := ⟨.hbm, 429, rfl⟩
abbrev main_v362 : Ref sig .tc := ⟨.hbm, 430, rfl⟩
abbrev main_v363 : Ref sig .tc := ⟨.hbm, 431, rfl⟩
abbrev main_v364 : Ref sig .tc := ⟨.hbm, 432, rfl⟩
abbrev main_v365 : Ref sig .tc := ⟨.hbm, 433, rfl⟩
abbrev main_cst_49 : Ref sig .tc := ⟨.hbm, 434, rfl⟩
abbrev main_v366 : Ref sig .tc := ⟨.hbm, 435, rfl⟩
abbrev main_v367 : Ref sig .tc := ⟨.hbm, 436, rfl⟩
abbrev main_v368 : Ref sig .tc := ⟨.hbm, 437, rfl⟩
abbrev main_cst_50 : Ref sig .tc := ⟨.hbm, 438, rfl⟩
abbrev main_v369 : Ref sig .tc := ⟨.hbm, 439, rfl⟩
abbrev main_v370 : Ref sig .tc := ⟨.hbm, 440, rfl⟩
abbrev main_v371 : Ref sig .tc := ⟨.hbm, 441, rfl⟩
abbrev main_cst_51 : Ref sig .tc := ⟨.hbm, 442, rfl⟩
abbrev main_v372 : Ref sig .tc := ⟨.hbm, 443, rfl⟩
abbrev main_v373 : Ref sig .tc := ⟨.hbm, 444, rfl⟩
abbrev main_cst_52 : Ref sig .tc := ⟨.hbm, 445, rfl⟩
abbrev main_v374 : Ref sig .tc := ⟨.hbm, 446, rfl⟩
abbrev main_v375 : Ref sig .tc := ⟨.hbm, 447, rfl⟩
abbrev main_v376 : Ref sig .tc := ⟨.hbm, 448, rfl⟩
abbrev main_cst_53 : Ref sig .tc := ⟨.hbm, 449, rfl⟩
abbrev main_cst_54 : Ref sig .tc := ⟨.hbm, 450, rfl⟩
abbrev main_v377 : Ref sig .tc := ⟨.hbm, 451, rfl⟩
abbrev main_v378 : Ref sig .tc := ⟨.hbm, 452, rfl⟩
abbrev main_cst_55 : Ref sig .tc := ⟨.hbm, 453, rfl⟩
abbrev main_v379 : Ref sig .tc := ⟨.hbm, 454, rfl⟩
abbrev main_v380 : Ref sig .tc := ⟨.hbm, 455, rfl⟩
abbrev main_v381 : Ref sig .tc := ⟨.hbm, 456, rfl⟩
abbrev main_v382 : Ref sig .tc := ⟨.hbm, 457, rfl⟩
abbrev main_call3_cst : Ref sig .tc := ⟨.hbm, 458, rfl⟩
abbrev main_call3_v0 : Ref sig .tc := ⟨.hbm, 459, rfl⟩
abbrev main_call3_v1 : Ref sig .tc := ⟨.hbm, 460, rfl⟩
abbrev main_call3_v2 : Ref sig .tc := ⟨.hbm, 461, rfl⟩
abbrev main_call3_v3 : Ref sig .tc := ⟨.hbm, 462, rfl⟩
abbrev main_call3_v4 : Ref sig .tc := ⟨.hbm, 463, rfl⟩
abbrev main_call3_v5 : Ref sig .tc := ⟨.hbm, 464, rfl⟩
abbrev main_call3_v6 : Ref sig .tc := ⟨.hbm, 465, rfl⟩
abbrev main_call3_v7 : Ref sig .tc := ⟨.hbm, 466, rfl⟩
abbrev main_call3_v8 : Ref sig .tc := ⟨.hbm, 467, rfl⟩
abbrev main_call3_v9 : Ref sig .tc := ⟨.hbm, 468, rfl⟩
abbrev main_call3_v10 : Ref sig .tc := ⟨.hbm, 469, rfl⟩
abbrev main_call3_v11 : Ref sig .tc := ⟨.hbm, 470, rfl⟩
abbrev main_v383 : Ref sig .tc := ⟨.hbm, 471, rfl⟩
abbrev main_cst_56 : Ref sig .tc := ⟨.hbm, 472, rfl⟩
abbrev main_v384 : Ref sig .tc := ⟨.hbm, 473, rfl⟩
abbrev main_v385 : Ref sig .tc := ⟨.hbm, 474, rfl⟩
abbrev main_cst_57 : Ref sig .tc := ⟨.hbm, 475, rfl⟩
abbrev main_cst_58 : Ref sig .tc := ⟨.hbm, 476, rfl⟩
abbrev main_call4_v0 : Ref sig .tc := ⟨.hbm, 477, rfl⟩
abbrev main_call4_v1 : Ref sig .tc := ⟨.hbm, 478, rfl⟩
abbrev main_call4_v2 : Ref sig .tc := ⟨.hbm, 479, rfl⟩
abbrev main_call4_v3 : Ref sig .tc := ⟨.hbm, 480, rfl⟩
abbrev main_call4_v4 : Ref sig .tc := ⟨.hbm, 481, rfl⟩
abbrev main_v386 : Ref sig .tc := ⟨.hbm, 482, rfl⟩
abbrev main_cst_59 : Ref sig .tc := ⟨.hbm, 483, rfl⟩
abbrev main_v387 : Ref sig .tc := ⟨.hbm, 484, rfl⟩
abbrev main_cst_60 : Ref sig .tc := ⟨.hbm, 485, rfl⟩
abbrev main_v388 : Ref sig .tc := ⟨.hbm, 486, rfl⟩
abbrev main_v389 : Ref sig .tc := ⟨.hbm, 487, rfl⟩
abbrev main_v390 : Ref sig .tc := ⟨.hbm, 488, rfl⟩
abbrev main_v391 : Ref sig .tc := ⟨.hbm, 489, rfl⟩
abbrev main_v392 : Ref sig .tc := ⟨.hbm, 490, rfl⟩
abbrev main_v393 : Ref sig .tc := ⟨.hbm, 491, rfl⟩
abbrev main_cst_61 : Ref sig .tc := ⟨.hbm, 492, rfl⟩
abbrev main_v394 : Ref sig .tc := ⟨.hbm, 493, rfl⟩
abbrev main_v395 : Ref sig .tc := ⟨.hbm, 494, rfl⟩
abbrev main_v396 : Ref sig .tc := ⟨.hbm, 495, rfl⟩
abbrev main_v397 : Ref sig .tc := ⟨.hbm, 496, rfl⟩
abbrev main_cst_62 : Ref sig .tc := ⟨.hbm, 497, rfl⟩
abbrev main_v398 : Ref sig .tc := ⟨.hbm, 498, rfl⟩
abbrev main_v399 : Ref sig .tc := ⟨.hbm, 499, rfl⟩
abbrev main_cst_63 : Ref sig .tc := ⟨.hbm, 500, rfl⟩
abbrev main_v400 : Ref sig .tc := ⟨.hbm, 501, rfl⟩
abbrev main_v401 : Ref sig .tc := ⟨.hbm, 502, rfl⟩
abbrev main_call5_call0_cst : Ref sig .tc := ⟨.hbm, 503, rfl⟩
abbrev main_call5_call0_v0 : Ref sig .tc := ⟨.hbm, 504, rfl⟩
abbrev main_v402 : Ref sig .tc := ⟨.hbm, 505, rfl⟩
abbrev main_v403 : Ref sig .tc := ⟨.hbm, 506, rfl⟩
abbrev main_cst_64 : Ref sig .tc := ⟨.hbm, 507, rfl⟩
abbrev main_v404 : Ref sig .tc := ⟨.hbm, 508, rfl⟩
abbrev main_v405 : Ref sig .tc := ⟨.hbm, 509, rfl⟩
abbrev main_cst_65 : Ref sig .tc := ⟨.hbm, 510, rfl⟩
abbrev main_v406 : Ref sig .tc := ⟨.hbm, 511, rfl⟩
abbrev main_v407 : Ref sig .tc := ⟨.hbm, 512, rfl⟩
abbrev main_cst_66 : Ref sig .tc := ⟨.hbm, 513, rfl⟩
abbrev main_v408 : Ref sig .tc := ⟨.hbm, 514, rfl⟩
abbrev main_cst_67 : Ref sig .tc := ⟨.hbm, 515, rfl⟩
abbrev main_v409 : Ref sig .tc := ⟨.hbm, 516, rfl⟩
abbrev main_v410 : Ref sig .tc := ⟨.hbm, 517, rfl⟩
abbrev main_v411 : Ref sig .tc := ⟨.hbm, 518, rfl⟩
abbrev main_v412 : Ref sig .tc := ⟨.hbm, 519, rfl⟩
abbrev main_cst_68 : Ref sig .tc := ⟨.hbm, 520, rfl⟩
abbrev main_v413 : Ref sig .tc := ⟨.hbm, 521, rfl⟩
abbrev main_cst_69 : Ref sig .tc := ⟨.hbm, 522, rfl⟩
abbrev main_v414 : Ref sig .tc := ⟨.hbm, 523, rfl⟩
abbrev main_v415 : Ref sig .tc := ⟨.hbm, 524, rfl⟩
abbrev main_v416 : Ref sig .tc := ⟨.hbm, 525, rfl⟩
abbrev main_v417 : Ref sig .tc := ⟨.hbm, 526, rfl⟩
abbrev main_v418 : Ref sig .tc := ⟨.hbm, 527, rfl⟩
abbrev main_v419 : Ref sig .tc := ⟨.hbm, 528, rfl⟩
abbrev main_cst_70 : Ref sig .tc := ⟨.hbm, 529, rfl⟩
abbrev main_v420 : Ref sig .tc := ⟨.hbm, 530, rfl⟩
abbrev main_v421 : Ref sig .tc := ⟨.hbm, 531, rfl⟩
abbrev main_v422 : Ref sig .tc := ⟨.hbm, 532, rfl⟩
abbrev main_v423 : Ref sig .tc := ⟨.hbm, 533, rfl⟩
abbrev main_cst_71 : Ref sig .tc := ⟨.hbm, 534, rfl⟩
abbrev main_v424 : Ref sig .tc := ⟨.hbm, 535, rfl⟩
abbrev main_v425 : Ref sig .tc := ⟨.hbm, 536, rfl⟩
abbrev main_cst_72 : Ref sig .tc := ⟨.hbm, 537, rfl⟩
abbrev main_v426 : Ref sig .tc := ⟨.hbm, 538, rfl⟩
abbrev main_v427 : Ref sig .tc := ⟨.hbm, 539, rfl⟩
abbrev main_call6_call0_cst : Ref sig .tc := ⟨.hbm, 540, rfl⟩
abbrev main_call6_call0_v0 : Ref sig .tc := ⟨.hbm, 541, rfl⟩
abbrev main_v428 : Ref sig .tc := ⟨.hbm, 542, rfl⟩
abbrev main_v429 : Ref sig .tc := ⟨.hbm, 543, rfl⟩
abbrev main_cst_73 : Ref sig .tc := ⟨.hbm, 544, rfl⟩
abbrev main_v430 : Ref sig .tc := ⟨.hbm, 545, rfl⟩
abbrev main_v431 : Ref sig .tc := ⟨.hbm, 546, rfl⟩
abbrev main_cst_74 : Ref sig .tc := ⟨.hbm, 547, rfl⟩
abbrev main_v432 : Ref sig .tc := ⟨.hbm, 548, rfl⟩
abbrev main_v433 : Ref sig .tc := ⟨.hbm, 549, rfl⟩
abbrev main_cst_75 : Ref sig .tc := ⟨.hbm, 550, rfl⟩
abbrev main_v434 : Ref sig .tc := ⟨.hbm, 551, rfl⟩
abbrev main_cst_76 : Ref sig .tc := ⟨.hbm, 552, rfl⟩
abbrev main_v435 : Ref sig .tc := ⟨.hbm, 553, rfl⟩
abbrev main_v436 : Ref sig .tc := ⟨.hbm, 554, rfl⟩
abbrev main_v437 : Ref sig .tc := ⟨.hbm, 555, rfl⟩
abbrev main_v438 : Ref sig .tc := ⟨.hbm, 556, rfl⟩
abbrev main_v439 : Ref sig .tc := ⟨.hbm, 557, rfl⟩
abbrev main_v440 : Ref sig .tc := ⟨.hbm, 558, rfl⟩
abbrev main_v441 : Ref sig .tc := ⟨.hbm, 559, rfl⟩
abbrev main_v442 : Ref sig .tc := ⟨.hbm, 560, rfl⟩
abbrev main_v443 : Ref sig .tc := ⟨.hbm, 561, rfl⟩
abbrev main_v444 : Ref sig .tc := ⟨.hbm, 562, rfl⟩
abbrev main_v445 : Ref sig .tc := ⟨.hbm, 563, rfl⟩
abbrev main_v446 : Ref sig .tc := ⟨.hbm, 564, rfl⟩
abbrev main_v447 : Ref sig .tc := ⟨.hbm, 565, rfl⟩
abbrev main_cst_77 : Ref sig .tc := ⟨.hbm, 566, rfl⟩
abbrev main_v448 : Ref sig .tc := ⟨.hbm, 567, rfl⟩
abbrev main_v449 : Ref sig .tc := ⟨.hbm, 568, rfl⟩
abbrev main_v450 : Ref sig .tc := ⟨.hbm, 569, rfl⟩
abbrev main_v451 : Ref sig .tc := ⟨.hbm, 570, rfl⟩
abbrev main_v452 : Ref sig .tc := ⟨.hbm, 571, rfl⟩
abbrev main_v453 : Ref sig .tc := ⟨.hbm, 572, rfl⟩
abbrev main_v454 : Ref sig .tc := ⟨.hbm, 573, rfl⟩
abbrev main_c_78 : Ref sig .tc := ⟨.hbm, 574, rfl⟩
abbrev main_v455 : Ref sig .tc := ⟨.hbm, 575, rfl⟩
abbrev main_c_79 : Ref sig .tc := ⟨.hbm, 576, rfl⟩
abbrev main_v456 : Ref sig .tc := ⟨.hbm, 577, rfl⟩
abbrev main_v457 : Ref sig .tc := ⟨.hbm, 578, rfl⟩
abbrev main_c_80 : Ref sig .tc := ⟨.hbm, 579, rfl⟩
abbrev main_c_81 : Ref sig .tc := ⟨.hbm, 580, rfl⟩
abbrev main_call7_v0 : Ref sig .tc := ⟨.hbm, 581, rfl⟩
abbrev main_call7_v1 : Ref sig .tc := ⟨.hbm, 582, rfl⟩
abbrev main_call7_v2 : Ref sig .tc := ⟨.hbm, 583, rfl⟩
abbrev main_call7_v3 : Ref sig .tc := ⟨.hbm, 584, rfl⟩
abbrev main_call7_v4 : Ref sig .tc := ⟨.hbm, 585, rfl⟩
abbrev main_v458 : Ref sig .tc := ⟨.hbm, 586, rfl⟩
abbrev main_v459 : Ref sig .tc := ⟨.hbm, 587, rfl⟩
abbrev main_call8_c : Ref sig .tc := ⟨.hbm, 588, rfl⟩
abbrev main_call8_v0 : Ref sig .tc := ⟨.hbm, 589, rfl⟩
abbrev main_call8_v1 : Ref sig .tc := ⟨.hbm, 590, rfl⟩
abbrev main_call8_c_0 : Ref sig .tc := ⟨.hbm, 591, rfl⟩
abbrev main_call8_v2 : Ref sig .tc := ⟨.hbm, 592, rfl⟩
abbrev main_call8_v3 : Ref sig .tc := ⟨.hbm, 593, rfl⟩
abbrev main_call8_v4 : Ref sig .tc := ⟨.hbm, 594, rfl⟩
abbrev main_call8_v5 : Ref sig .tc := ⟨.hbm, 595, rfl⟩
abbrev main_v460 : Ref sig .tc := ⟨.hbm, 596, rfl⟩
abbrev main_v461 : Ref sig .tc := ⟨.hbm, 597, rfl⟩
abbrev main_call9_c : Ref sig .tc := ⟨.hbm, 598, rfl⟩
abbrev main_call9_v0 : Ref sig .tc := ⟨.hbm, 599, rfl⟩
abbrev main_call9_v1 : Ref sig .tc := ⟨.hbm, 600, rfl⟩
abbrev main_call9_c_0 : Ref sig .tc := ⟨.hbm, 601, rfl⟩
abbrev main_call9_v2 : Ref sig .tc := ⟨.hbm, 602, rfl⟩
abbrev main_call9_v3 : Ref sig .tc := ⟨.hbm, 603, rfl⟩
abbrev main_call9_v4 : Ref sig .tc := ⟨.hbm, 604, rfl⟩
abbrev main_call9_v5 : Ref sig .tc := ⟨.hbm, 605, rfl⟩
abbrev main_v462 : Ref sig .tc := ⟨.hbm, 606, rfl⟩
abbrev main_v463 : Ref sig .tc := ⟨.hbm, 607, rfl⟩
abbrev main_call10_c : Ref sig .tc := ⟨.hbm, 608, rfl⟩
abbrev main_call10_v0 : Ref sig .tc := ⟨.hbm, 609, rfl⟩
abbrev main_call10_v1 : Ref sig .tc := ⟨.hbm, 610, rfl⟩
abbrev main_call10_c_0 : Ref sig .tc := ⟨.hbm, 611, rfl⟩
abbrev main_call10_v2 : Ref sig .tc := ⟨.hbm, 612, rfl⟩
abbrev main_call10_v3 : Ref sig .tc := ⟨.hbm, 613, rfl⟩
abbrev main_call10_v4 : Ref sig .tc := ⟨.hbm, 614, rfl⟩
abbrev main_call10_v5 : Ref sig .tc := ⟨.hbm, 615, rfl⟩
abbrev main_v464 : Ref sig .tc := ⟨.hbm, 616, rfl⟩
abbrev main_v465 : Ref sig .tc := ⟨.hbm, 617, rfl⟩
abbrev main_call11_c : Ref sig .tc := ⟨.hbm, 618, rfl⟩
abbrev main_call11_v0 : Ref sig .tc := ⟨.hbm, 619, rfl⟩
abbrev main_call11_v1 : Ref sig .tc := ⟨.hbm, 620, rfl⟩
abbrev main_call11_c_0 : Ref sig .tc := ⟨.hbm, 621, rfl⟩
abbrev main_call11_v2 : Ref sig .tc := ⟨.hbm, 622, rfl⟩
abbrev main_call11_v3 : Ref sig .tc := ⟨.hbm, 623, rfl⟩
abbrev main_call11_v4 : Ref sig .tc := ⟨.hbm, 624, rfl⟩
abbrev main_call11_v5 : Ref sig .tc := ⟨.hbm, 625, rfl⟩
abbrev main_v466 : Ref sig .tc := ⟨.hbm, 626, rfl⟩
abbrev main_v467 : Ref sig .tc := ⟨.hbm, 627, rfl⟩
abbrev main_call12_c : Ref sig .tc := ⟨.hbm, 628, rfl⟩
abbrev main_call12_v0 : Ref sig .tc := ⟨.hbm, 629, rfl⟩
abbrev main_call12_v1 : Ref sig .tc := ⟨.hbm, 630, rfl⟩
abbrev main_call12_c_0 : Ref sig .tc := ⟨.hbm, 631, rfl⟩
abbrev main_call12_v2 : Ref sig .tc := ⟨.hbm, 632, rfl⟩
abbrev main_call12_v3 : Ref sig .tc := ⟨.hbm, 633, rfl⟩
abbrev main_call12_v4 : Ref sig .tc := ⟨.hbm, 634, rfl⟩
abbrev main_call12_v5 : Ref sig .tc := ⟨.hbm, 635, rfl⟩
abbrev main_v468 : Ref sig .tc := ⟨.hbm, 636, rfl⟩
abbrev main_v469 : Ref sig .tc := ⟨.hbm, 637, rfl⟩
abbrev main_v470 : Ref sig .tc := ⟨.hbm, 638, rfl⟩
abbrev main_call13_c : Ref sig .tc := ⟨.hbm, 639, rfl⟩
abbrev main_call13_v0 : Ref sig .tc := ⟨.hbm, 640, rfl⟩
abbrev main_call13_v1 : Ref sig .tc := ⟨.hbm, 641, rfl⟩
abbrev main_call13_c_0 : Ref sig .tc := ⟨.hbm, 642, rfl⟩
abbrev main_call13_v2 : Ref sig .tc := ⟨.hbm, 643, rfl⟩
abbrev main_call13_v3 : Ref sig .tc := ⟨.hbm, 644, rfl⟩
abbrev main_call13_v4 : Ref sig .tc := ⟨.hbm, 645, rfl⟩
abbrev main_call13_v5 : Ref sig .tc := ⟨.hbm, 646, rfl⟩
abbrev main_v471 : Ref sig .tc := ⟨.hbm, 647, rfl⟩
abbrev main_v472 : Ref sig .tc := ⟨.hbm, 648, rfl⟩
abbrev main_call14_c : Ref sig .tc := ⟨.hbm, 649, rfl⟩
abbrev main_call14_v0 : Ref sig .tc := ⟨.hbm, 650, rfl⟩
abbrev main_call14_v1 : Ref sig .tc := ⟨.hbm, 651, rfl⟩
abbrev main_call14_c_0 : Ref sig .tc := ⟨.hbm, 652, rfl⟩
abbrev main_call14_v2 : Ref sig .tc := ⟨.hbm, 653, rfl⟩
abbrev main_call14_v3 : Ref sig .tc := ⟨.hbm, 654, rfl⟩
abbrev main_call14_v4 : Ref sig .tc := ⟨.hbm, 655, rfl⟩
abbrev main_call14_v5 : Ref sig .tc := ⟨.hbm, 656, rfl⟩
abbrev main_v473 : Ref sig .tc := ⟨.hbm, 657, rfl⟩
abbrev main_v474 : Ref sig .tc := ⟨.hbm, 658, rfl⟩
abbrev main_v475 : Ref sig .tc := ⟨.hbm, 659, rfl⟩
abbrev main_v476 : Ref sig .tc := ⟨.hbm, 660, rfl⟩
abbrev main_cst_82 : Ref sig .tc := ⟨.hbm, 661, rfl⟩
abbrev main_v477 : Ref sig .tc := ⟨.hbm, 662, rfl⟩
abbrev main_v478 : Ref sig .tc := ⟨.hbm, 663, rfl⟩
abbrev main_v479 : Ref sig .tc := ⟨.hbm, 664, rfl⟩
abbrev main_v480 : Ref sig .tc := ⟨.hbm, 665, rfl⟩
abbrev main_v481 : Ref sig .tc := ⟨.hbm, 666, rfl⟩
abbrev main_v482 : Ref sig .tc := ⟨.hbm, 667, rfl⟩
abbrev main_v483 : Ref sig .tc := ⟨.hbm, 668, rfl⟩
abbrev main_v484 : Ref sig .tc := ⟨.hbm, 669, rfl⟩
abbrev main_v485 : Ref sig .tc := ⟨.hbm, 670, rfl⟩
abbrev main_cst_83 : Ref sig .tc := ⟨.hbm, 671, rfl⟩
abbrev main_v486 : Ref sig .tc := ⟨.hbm, 672, rfl⟩
abbrev main_v487 : Ref sig .tc := ⟨.hbm, 673, rfl⟩
abbrev main_v488 : Ref sig .tc := ⟨.hbm, 674, rfl⟩
abbrev main_v489 : Ref sig .tc := ⟨.hbm, 675, rfl⟩
abbrev main_v490 : Ref sig .tc := ⟨.hbm, 676, rfl⟩
abbrev main_v491 : Ref sig .tc := ⟨.hbm, 677, rfl⟩
abbrev main_v492 : Ref sig .tc := ⟨.hbm, 678, rfl⟩
abbrev main_v493 : Ref sig .tc := ⟨.hbm, 679, rfl⟩
abbrev main_v494 : Ref sig .tc := ⟨.hbm, 680, rfl⟩
abbrev main_v495 : Ref sig .tc := ⟨.hbm, 681, rfl⟩
abbrev main_cst_84 : Ref sig .tc := ⟨.hbm, 682, rfl⟩
abbrev main_v496 : Ref sig .tc := ⟨.hbm, 683, rfl⟩
abbrev main_v497 : Ref sig .tc := ⟨.hbm, 684, rfl⟩
abbrev main_v498 : Ref sig .tc := ⟨.hbm, 685, rfl⟩
abbrev main_v499 : Ref sig .tc := ⟨.hbm, 686, rfl⟩
abbrev main_cst_85 : Ref sig .tc := ⟨.hbm, 687, rfl⟩
abbrev main_v500 : Ref sig .tc := ⟨.hbm, 688, rfl⟩
abbrev main_v501 : Ref sig .tc := ⟨.hbm, 689, rfl⟩
abbrev main_v502 : Ref sig .tc := ⟨.hbm, 690, rfl⟩
abbrev main_v503 : Ref sig .tc := ⟨.hbm, 691, rfl⟩
abbrev main_v504 : Ref sig .tc := ⟨.hbm, 692, rfl⟩
abbrev main_v505 : Ref sig .tc := ⟨.hbm, 693, rfl⟩
abbrev main_v506 : Ref sig .tc := ⟨.hbm, 694, rfl⟩
abbrev main_v507 : Ref sig .tc := ⟨.hbm, 695, rfl⟩
abbrev main_cst_86 : Ref sig .tc := ⟨.hbm, 696, rfl⟩
abbrev main_v508 : Ref sig .tc := ⟨.hbm, 697, rfl⟩
abbrev main_v509 : Ref sig .tc := ⟨.hbm, 698, rfl⟩
abbrev main_v510 : Ref sig .tc := ⟨.hbm, 699, rfl⟩
abbrev main_v511 : Ref sig .tc := ⟨.hbm, 700, rfl⟩
abbrev main_cst_87 : Ref sig .tc := ⟨.hbm, 701, rfl⟩
abbrev main_call16_v0 : Ref sig .tc := ⟨.hbm, 702, rfl⟩
abbrev main_call16_v1 : Ref sig .tc := ⟨.hbm, 703, rfl⟩
abbrev main_v512 : Ref sig .tc := ⟨.hbm, 704, rfl⟩
abbrev main_v513 : Ref sig .tc := ⟨.hbm, 705, rfl⟩
abbrev main_v514 : Ref sig .tc := ⟨.hbm, 706, rfl⟩
abbrev main_v515 : Ref sig .tc := ⟨.hbm, 707, rfl⟩
abbrev main_v516 : Ref sig .tc := ⟨.hbm, 708, rfl⟩
abbrev main_cst_88 : Ref sig .tc := ⟨.hbm, 709, rfl⟩
abbrev main_v517 : Ref sig .tc := ⟨.hbm, 710, rfl⟩

abbrev nD : Nat := 1
abbrev τ : Topo := Topo.v7x

variable {F : FTy → Type} [FloatOps F]
-- ==== Proof.Value.Stages.lean ====
/-
  The kernel's body as a handful of vector stages. The printed body cuts the two halves of a block (one batch element
  each) at different places; here each stage is named once, and the values the body stores are shown to be these stages.
-/
module

public import proofs.«01_k».proof.Proof.Gen.KernelIdeal.Frame
@[expose] public section

set_option maxRecDepth 65536

noncomputable section

namespace Cert.KernelIdeal.Stages
open Idealize.ShloMosaic Idealize.SL.Sem Cert.KernelIdeal Cert.KernelIdeal.Gen

/-- The named 1/192, and the named 1/√2. -/
def invN : Ideal .f32 := Named.named κ "inv_n" 0x3BAAAAAB#32
def invSqrt2 : Ideal .f32 := Named.named κ "inv_sqrt2" 0x3F3504F3#32

/-- Three taps, the outer two a distance 1, 3 or 9 away, zeros past the ends. -/
def conv1 (h : FVec Ideal S192x4096 .f32) (w0 w1 w2 : FVec Ideal S192x1 .f32) : FVec Ideal S192x4096 .f32 :=
  addf (addf
      (mulf (broadcastTo S192x4096 w0 broadcasts_S192x1_S192x4096)
        (concatenate S192x4096 1 [⟨S192x1, broadcast S192x1 (Scalar.ofBits .f32 0x00000000#32)⟩,
          ⟨S192x4095, extractStridedSlice S192x4095 ![0, 0] h slices_S192x4096_o0_0_S192x4095⟩]
          concatenates_S192x1_S192x4095_S192x4096_d1))
      (mulf (broadcastTo S192x4096 w1 broadcasts_S192x1_S192x4096) h))
    (mulf (broadcastTo S192x4096 w2 broadcasts_S192x1_S192x4096)
      (concatenate S192x4096 1 [⟨S192x4095, extractStridedSlice S192x4095 ![0, 1] h slices_S192x4096_o0_1_S192x4095⟩,
        ⟨S192x1, broadcast S192x1 (Scalar.ofBits .f32 0x00000000#32)⟩] concatenates_S192x4095_S192x1_S192x4096_d1))

def conv3 (h : FVec Ideal S192x4096 .f32) (w0 w1 w2 : FVec Ideal S192x1 .f32) : FVec Ideal S192x4096 .f32 :=
  addf (addf
      (mulf (broadcastTo S192x4096 w0 broadcasts_S192x1_S192x4096)
        (concatenate S192x4096 1 [⟨S192x3, broadcast S192x3 (Scalar.ofBits .f32 0x00000000#32)⟩,
          ⟨S192x4093, extractStridedSlice S192x4093 ![0, 0] h slices_S192x4096_o0_0_S192x4093⟩]
          concatenates_S192x3_S192x4093_S192x4096_d1))
      (mulf (broadcastTo S192x4096 w1 broadcasts_S192x1_S192x4096) h))
    (mulf (broadcastTo S192x4096 w2 broadcasts_S192x1_S192x4096)
      (concatenate S192x4096 1 [⟨S192x4093, extractStridedSlice S192x4093 ![0, 3] h slices_S192x4096_o0_3_S192x4093⟩,
        ⟨S192x3, broadcast S192x3 (Scalar.ofBits .f32 0x00000000#32)⟩] concatenates_S192x4093_S192x3_S192x4096_d1))

def conv9 (h : FVec Ideal S192x4096 .f32) (w0 w1 w2 : FVec Ideal S192x1 .f32) : FVec Ideal S192x4096 .f32 :=
  addf (addf
      (mulf (broadcastTo S192x4096 w0 broadcasts_S192x1_S192x4096)
        (concatenate S192x4096 1 [⟨S192x9, broadcast S192x9 (Scalar.ofBits .f32 0x00000000#32)⟩,
          ⟨S192x4087, extractStridedSlice S192x4087 ![0, 0] h slices_S192x4096_o0_0_S192x4087⟩]
          concatenates_S192x9_S192x4087_S192x4096_d1))
      (mulf (broadcastTo S192x4096 w1 broadcasts_S192x1_S192x4096) h))
    (mulf (broadcastTo S192x4096 w2 broadcasts_S192x1_S192x4096)
      (concatenate S192x4096 1 [⟨S192x4087, extractStridedSlice S192x4087 ![0, 9] h slices_S192x4096_o0_9_S192x4087⟩,
        ⟨S192x9, broadcast S192x9 (Scalar.ofBits .f32 0x00000000#32)⟩] concatenates_S192x4087_S192x9_S192x4096_d1))

/-- The sum of a column, as a row. -/
def total (y : FVec Ideal S192x4096 .f32) : FVec Ideal S1x4096 .f32 :=
  shapeCast S1x4096 (multiReduction .add [0] S4096 y 0x00000000#32 reduces_S192x4096_S4096 (.inl rfl) rfl)
    shapeCasts_S4096_S1x4096

/-- The mean of a column from its sum. -/
def average (s : FVec Ideal S1x4096 .f32) : FVec Ideal S1x4096 .f32 := mulf s (broadcast S1x4096 invN)

/-- A column less its mean, over the root of its variance: the variance as the mean of squares less the squared mean. -/
def normal (y : FVec Ideal S192x4096 .f32) (s : FVec Ideal S1x4096 .f32) : FVec Ideal S192x4096 .f32 :=
  mulf (subf y (broadcastTo S192x4096 (average s) broadcasts_S1x4096_S192x4096))
    (broadcastTo S192x4096
      (rsqrt (addf (subf (average (total (mulf y y))) (mulf (average s) (average s)))
        (broadcast S1x4096 (Scalar.ofBits .f32 0x3727C5AC#32)))) broadcasts_S1x4096_S192x4096)

/-- `1 + erf (y/√2)`. -/
def bell (y : FVec Ideal S192x4096 .f32) : FVec Ideal S192x4096 .f32 :=
  addf (broadcast S192x4096 (Scalar.ofBits .f32 0x3F800000#32)) (erf (mulf y (broadcast S192x4096 invSqrt2)))

/-- The activation without its half, and with it. -/
def act2 (y : FVec Ideal S192x4096 .f32) : FVec Ideal S192x4096 .f32 := mulf y (bell y)
def act (y : FVec Ideal S192x4096 .f32) : FVec Ideal S192x4096 .f32 :=
  mulf (mulf (broadcast S192x4096 (Scalar.ofBits .f32 0x3F000000#32)) y) (bell y)

/-- The array over itself and over what its rounding leaves. -/
def split (y : FVec Ideal S192x4096 .f32) : FVec Ideal S576x4096 .bf16 :=
  concatenate S576x4096 0 [⟨S192x4096, truncf .bf16 y bitsLt_bf16_f32⟩, ⟨S192x4096, truncf .bf16 y bitsLt_bf16_f32⟩,
    ⟨S192x4096, truncf .bf16 (subf y (extf .f32 (truncf .bf16 y bitsLt_bf16_f32) bitsLt_bf16_f32)) bitsLt_bf16_f32⟩]
    concatenates_S192x4096_S192x4096_S192x4096_S576x4096_d0

/-- The channel mixing, its column sums in row 192. -/
def mixed (y : FVec Ideal S192x4096 .f32) (wt : FVec Ideal S1x200x576 .bf16) : FVec Ideal S200x4096 .f32 :=
  matmul dot_S200x576_S576x4096_S200x4096_1_0_0_1_n_n none (shapeCast S200x576 wt shapeCasts_S1x200x576_S200x576) (split y)
    (constant S200x4096 .f32 0x00000000#32)

/-- The second half of a layer: from the convolved array to the layer's result. -/
def rest (h y : FVec Ideal S192x4096 .f32) (wt : FVec Ideal S1x200x576 .bf16) : FVec Ideal S192x4096 .f32 :=
  addf h (act (normal
    (extractStridedSlice S192x4096 ![0, 0] (mixed (act2 (normal y (total y))) wt) slices_S200x4096_o0_0_S192x4096)
    (extractStridedSlice S1x4096 ![192, 0] (mixed (act2 (normal y (total y))) wt) slices_S200x4096_o192_0_S1x4096)))

/-- The projection to the spline's parameters. -/
def params (h : FVec Ideal S192x4096 .f32) (w : FVec Ideal S32x576 .bf16) : FVec Ideal S32x4096 .f32 :=
  matmul dot_S32x576_S576x4096_S32x4096_1_0_0_1_n_n none (shapeCast S32x576 w shapeCasts_S32x576_S32x576) (split h)
    (constant S32x4096 .f32 0x00000000#32)

section
variable (x0 : Vec Ideal S2x2x4096 .f32) (x1 : Vec Ideal S192x3 .bf16) (x2 : Vec Ideal S192x9 .f32)
  (x3 : Vec Ideal S3x200x576 .bf16) (x4 : Vec Ideal S32x576 .bf16)

/-- The hidden array after one, two and three layers, from the conditioning row `a`. -/
def hidden1 (a : FVec Ideal S1x1x4096 .f32) : FVec Ideal S192x4096 .f32 :=
  rest (k0_pay3 a (View.ld x1 r0_2)) (conv1 (k0_pay3 a (View.ld x1 r0_2))
    (shapeCast S192x1 (View.ld x2 r0_3) shapeCasts_S192x1_S192x1) (shapeCast S192x1 (View.ld x2 r0_4) shapeCasts_S192x1_S192x1)
    (shapeCast S192x1 (View.ld x2 r0_5) shapeCasts_S192x1_S192x1)) (View.ld x3 r0_6)
def hidden2 (a : FVec Ideal S1x1x4096 .f32) : FVec Ideal S192x4096 .f32 :=
  rest (hidden1 x1 x2 x3 a) (conv3 (hidden1 x1 x2 x3 a)
    (shapeCast S192x1 (View.ld x2 r0_7) shapeCasts_S192x1_S192x1) (shapeCast S192x1 (View.ld x2 r0_8) shapeCasts_S192x1_S192x1)
    (shapeCast S192x1 (View.ld x2 r0_9) shapeCasts_S192x1_S192x1)) (View.ld x3 r0_10)
def hidden3 (a : FVec Ideal S1x1x4096 .f32) : FVec Ideal S192x4096 .f32 :=
  rest (hidden2 x1 x2 x3 a) (conv9 (hidden2 x1 x2 x3 a)
    (shapeCast S192x1 (View.ld x2 r0_11) shapeCasts_S192x1_S192x1) (shapeCast S192x1 (View.ld x2 r0_12) shapeCasts_S192x1_S192x1)
    (shapeCast S192x1 (View.ld x2 r0_13) shapeCasts_S192x1_S192x1)) (View.ld x3 r0_14)

/-- The projected parameters from the conditioning row. -/
def projected (a : FVec Ideal S1x1x4096 .f32) : FVec Ideal S32x4096 .f32 :=
  params (hidden3 x1 x2 x3 a) (View.ld x4 r0_15)

theorem pay112_eq : k0_pay112 x0 x1 x2 x3 x4 = k0_pay3 (View.ld x0 r0_0) (View.ld x1 r0_2) := rfl
theorem pay113_eq : k0_pay113 x0 x1 x2 x3 x4 = conv1 (k0_pay3 (View.ld x0 r0_0) (View.ld x1 r0_2))
    (shapeCast S192x1 (View.ld x2 r0_3) shapeCasts_S192x1_S192x1) (shapeCast S192x1 (View.ld x2 r0_4) shapeCasts_S192x1_S192x1)
    (shapeCast S192x1 (View.ld x2 r0_5) shapeCasts_S192x1_S192x1) := rfl
theorem pay11_eq (h y : FVec Ideal S192x4096 .f32) (wt : FVec Ideal S1x200x576 .bf16) :
    k0_pay11 h (k0_pay9 y (total (mulf y y)) (average (total y)) k0_pay7 wt)
      (k0_pay10 y (total (mulf y y)) (average (total y)) k0_pay7 wt) = rest h y wt := rfl
theorem pay15_eq (h a b : FVec Ideal S192x4096 .f32) (w0 w1 w2 : FVec Ideal S192x1 .f32) (wt : FVec Ideal S1x200x576 .bf16) :
    k0_pay15 (k0_pay11 h a b) (k0_pay12 h a b w0 w1 w2) (k0_pay13 h a b w0 w1 w2) (k0_pay14 (F := Ideal)) wt
      = rest (k0_pay11 h a b) (conv3 (k0_pay11 h a b) (shapeCast S192x1 w0 shapeCasts_S192x1_S192x1)
          (shapeCast S192x1 w1 shapeCasts_S192x1_S192x1) (shapeCast S192x1 w2 shapeCasts_S192x1_S192x1)) wt := rfl
theorem pay119_eq : k0_pay119 x0 x1 x2 x3 x4 = hidden2 x1 x2 x3 (View.ld x0 r0_0) := by
  unfold k0_pay119
  rw [pay15_eq]
  have h : k0_pay11 (k0_pay112 x0 x1 x2 x3 x4) (k0_pay117 x0 x1 x2 x3 x4) (k0_pay118 x0 x1 x2 x3 x4)
      = hidden1 x1 x2 x3 (View.ld x0 r0_0) := pay11_eq _ _ _
  rw [h]; rfl
theorem pay23_eq (h : FVec Ideal S192x4096 .f32) (w0 w1 w2 : FVec Ideal S192x1 .f32) (wt : FVec Ideal S1x200x576 .bf16)
    (w : FVec Ideal S32x576 .bf16) :
    k0_pay23 h (k0_pay20 h w0 w1 w2 wt) (k0_pay21 h w0 w1 w2 wt) (k0_pay22 h w0 w1 w2 wt) w
      = params (rest h (conv9 h w0 w1 w2) wt) w := rfl
theorem projected0_eq : k0_pay23 (k0_pay119 x0 x1 x2 x3 x4) (k0_pay123 x0 x1 x2 x3 x4) (k0_pay124 x0 x1 x2 x3 x4)
    (k0_pay125 x0 x1 x2 x3 x4) (View.ld x4 r0_15) = projected x1 x2 x3 x4 (View.ld x0 r0_0) := by
  unfold k0_pay123 k0_pay124 k0_pay125
  rw [pay23_eq, pay119_eq]; rfl

/-! ### The spline -/

/-- The knots from ten logits, the derivatives from nine. -/
def knots (p : FVec Ideal S10x4096 .f32) : FVec Ideal S11x4096 .f32 := k0_pay31 p k0_pay26 k0_pay27 k0_pay28
def slopes (u : FVec Ideal S9x4096 .f32) : FVec Ideal S11x4096 .f32 := k0_pay34 k0_pay32 (k0_pay33 u)

/-- The transformed row and the row of log-derivatives, from the row, the two knot tables and the slopes. -/
def outRow (x : FVec Ideal S1x4096 .f32) (cw ch d : FVec Ideal S11x4096 .f32) : FVec Ideal S1x4096 .f32 :=
  k0_pay48 x d (k0_pay35 x) (k0_pay36 x) (k0_pay37 x cw) (k0_pay38 x cw) (k0_pay39 x cw) (k0_pay40 x cw ch)
    (k0_pay41 x cw ch) (k0_pay42 x cw ch)
def ladRow (x : FVec Ideal S1x4096 .f32) (cw ch d : FVec Ideal S11x4096 .f32) : FVec Ideal S1x4096 .f32 :=
  k0_pay49 d (k0_pay35 x) (k0_pay36 x) (k0_pay37 x cw) (k0_pay38 x cw) (k0_pay39 x cw) (k0_pay42 x cw ch)

/-- The three tables from the projected parameters. -/
def widths (p : FVec Ideal S32x4096 .f32) : FVec Ideal S11x4096 .f32 :=
  knots (extractStridedSlice S10x4096 ![0, 0] p slices_S32x4096_o0_0_S10x4096)
def heights (p : FVec Ideal S32x4096 .f32) : FVec Ideal S11x4096 .f32 :=
  knots (extractStridedSlice S10x4096 ![10, 0] p slices_S32x4096_o10_0_S10x4096)
def bends (p : FVec Ideal S32x4096 .f32) : FVec Ideal S11x4096 .f32 :=
  slopes (extractStridedSlice S9x4096 ![20, 0] p slices_S32x4096_o20_0_S9x4096)

theorem pay129_eq : k0_pay129 x0 x1 x2 x3 x4 = widths (projected x1 x2 x3 x4 (View.ld x0 r0_0)) := by
  rw [← projected0_eq]; rfl
theorem pay130_eq : k0_pay130 x0 x1 x2 x3 x4 = heights (projected x1 x2 x3 x4 (View.ld x0 r0_0)) := by
  rw [← projected0_eq]; rfl
theorem pay131_eq : k0_pay131 x0 x1 x2 x3 x4 = bends (projected x1 x2 x3 x4 (View.ld x0 r0_0)) := by
  rw [← projected0_eq]; rfl

/-! ### The second half -/

theorem pay150_eq : k0_pay150 x0 x1 x2 x3 x4 = hidden1 x1 x2 x3 (View.ld x0 r0_17) := rfl
theorem pay73_eq (h a s2 : FVec Ideal S192x4096 .f32) : k0_pay73 h a (mulf (broadcast S192x4096 (Scalar.ofBits .f32 0x3F000000#32)) a)
    = addf h (act a) := rfl
theorem pay154_eq : k0_pay73 (k0_pay150 x0 x1 x2 x3 x4) (k0_pay154 x0 x1 x2 x3 x4) (k0_pay155 x0 x1 x2 x3 x4)
    = hidden2 x1 x2 x3 (View.ld x0 r0_17) := by
  unfold k0_pay154 k0_pay155 k0_pay151 k0_pay152 k0_pay153
  rw [pay150_eq]; rfl
theorem projected1_eq : k0_pay80 (k0_pay159 x0 x1 x2 x3 x4) (k0_pay160 x0 x1 x2 x3 x4) (k0_pay161 x0 x1 x2 x3 x4)
    = projected x1 x2 x3 x4 (View.ld x0 r0_17) := by
  unfold k0_pay160 k0_pay161 k0_pay157 k0_pay156
  rw [pay154_eq]; rfl
theorem pay162_eq : k0_pay162 x0 x1 x2 x3 x4 = widths (projected x1 x2 x3 x4 (View.ld x0 r0_17)) := by
  rw [← projected1_eq]; rfl
theorem pay163_eq : k0_pay163 x0 x1 x2 x3 x4 = heights (projected x1 x2 x3 x4 (View.ld x0 r0_17)) := by
  rw [← projected1_eq]; rfl
theorem pay164_eq : k0_pay164 x0 x1 x2 x3 x4 = bends (projected x1 x2 x3 x4 (View.ld x0 r0_17)) := by
  rw [← projected1_eq]; rfl

/-! ### The pieces stored -/

/-- What one half stores, from its two rows: the row and the sum. -/
def halfRow (p : FVec Ideal S32x4096 .f32) (b : FVec Ideal S1x1x4096 .f32) : FVec Ideal S1x1x4096 .f32 :=
  k0_pay51 (outRow (k0_pay2 b) (widths p) (heights p) (bends p))
def halfSum (p : FVec Ideal S32x4096 .f32) (b : FVec Ideal S1x1x4096 .f32) : FVec Ideal S1x1x128 .f32 :=
  k0_pay52 (ladRow (k0_pay2 b) (widths p) (heights p) (bends p))

theorem out0_5_eq : out0_5 x0 x1 x2 x3 x4 = View.canon [
    ⟨r0_18, halfRow (projected x1 x2 x3 x4 (View.ld x0 r0_17)) (View.ld x0 r0_18)⟩,
    ⟨r0_17, k0_pay50 (k0_pay1 (View.ld x0 r0_17))⟩,
    ⟨r0_1, halfRow (projected x1 x2 x3 x4 (View.ld x0 r0_0)) (View.ld x0 r0_1)⟩,
    ⟨r0_0, k0_pay50 (k0_pay1 (View.ld x0 r0_0))⟩] := by
  unfold out0_5 k0_pay132 k0_pay133 k0_pay134 k0_pay135 k0_pay136 k0_pay137 k0_pay165 k0_pay166 k0_pay167 k0_pay168
  rw [pay129_eq, pay130_eq, pay131_eq, pay162_eq, pay163_eq, pay164_eq]
  rfl
theorem out0_6_eq : out0_6 x0 x1 x2 x3 x4 = View.canon [
    ⟨r0_19, halfSum (projected x1 x2 x3 x4 (View.ld x0 r0_17)) (View.ld x0 r0_18)⟩,
    ⟨r0_16, halfSum (projected x1 x2 x3 x4 (View.ld x0 r0_0)) (View.ld x0 r0_1)⟩] := by
  unfold out0_6 k0_pay132 k0_pay133 k0_pay134 k0_pay135 k0_pay136 k0_pay137 k0_pay165 k0_pay166 k0_pay167 k0_pay168
  rw [pay129_eq, pay130_eq, pay131_eq, pay162_eq, pay163_eq, pay164_eq]
  rfl
end

end Cert.KernelIdeal.Stages

end
-- ==== Proof.Value.Model.lean ====
/-
  The coupling layer over the reals: the conditioning network that yields the spline's parameters, and the facts about
  means, variances and constants that both programs need.
-/
module

public import Idealize.ShloMosaic.Lib.IdealHost
public import Mathlib.Analysis.SpecialFunctions.Log.Basic
public import Mathlib.Tactic.Linarith
public import Mathlib.Tactic.FieldSimp
public import Mathlib.Tactic.NormNum
@[expose] public section

noncomputable section

namespace Cert.Flow
open Idealize.ShloMosaic

/-! ### Constants -/

/-- The small number under the root, the least share of a bin, what the shares leave, and the logits' scale. -/
def eps : ℝ := 10995116 / 2 ^ 40
def least : ℝ := 8589935 / 2 ^ 33
def spread : ℝ := 16609444 / 2 ^ 24
def scale : ℝ := 9686330 / 2 ^ 27

theorem eps_pos : 0 < eps := by unfold eps; norm_num
theorem least_pos : 0 < least := by unfold least; norm_num
theorem spread_pos : 0 < spread := by unfold spread; norm_num
theorem nine_least : 9 * least + spread < 1 := by unfold least spread; norm_num

theorem bits_eps : Ideal.ofBits .f32 0x3727C5AC#32 = (eps : EReal) := by
  simp [Ideal.ofBits, Ideal.ieee, -EReal.coe_mul]; norm_num [eps]
theorem bits_least : Ideal.ofBits .f32 0x3A83126F#32 = (least : EReal) := by
  simp [Ideal.ofBits, Ideal.ieee, -EReal.coe_mul]; norm_num [least]
theorem bits_spread : Ideal.ofBits .f32 0x3F7D70A4#32 = (spread : EReal) := by
  simp [Ideal.ofBits, Ideal.ieee, -EReal.coe_mul]; norm_num [spread]
theorem bits_scale : Ideal.ofBits .f32 0x3D93CD3A#32 = (scale : EReal) := by
  simp [Ideal.ofBits, Ideal.ieee, -EReal.coe_mul]; norm_num [scale]
theorem bits_half : Ideal.ofBits .f32 0x3F000000#32 = ((1 / 2 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_five : Ideal.ofBits .f32 0x40A00000#32 = ((5 : ℝ) : EReal) := by
  simp [Ideal.ofBits, Ideal.ieee, -EReal.coe_mul]; norm_num
theorem bits_neg_five : Ideal.ofBits .f32 0xC0A00000#32 = ((-5 : ℝ) : EReal) := by
  simp [Ideal.ofBits, Ideal.ieee, -EReal.coe_mul, -EReal.coe_neg]; norm_num
theorem bits_ten : Ideal.ofBits .f32 0x41200000#32 = ((10 : ℝ) : EReal) := by
  simp [Ideal.ofBits, Ideal.ieee, -EReal.coe_mul]; norm_num
theorem bits_channels : Ideal.ofBits .f32 0x43400000#32 = ((192 : ℝ) : EReal) := by
  simp [Ideal.ofBits, Ideal.ieee, -EReal.coe_mul]; norm_num
theorem bits_nudge : Ideal.ofBits .f32 0x358637BD#32 = ((8796093 / 2 ^ 43 : ℝ) : EReal) := by
  simp [Ideal.ofBits, Ideal.ieee, -EReal.coe_mul]; norm_num
theorem bits_bot : Ideal.ofBits .f32 0xFF800000#32 = ⊥ := by simp [Ideal.ofBits, Ideal.ieee]
theorem bits_top : Ideal.ofBits .f32 0x7F800000#32 = ⊤ := by simp [Ideal.ofBits, Ideal.ieee]

/-! ### Real numbers among the extended reals -/

theorem coe_sum {n : ℕ} (f : Fin n → ℝ) : ((∑ i, f i : ℝ) : EReal) = ∑ i, (f i : EReal) := by
  classical
  have h : ∀ s : Finset (Fin n), ((∑ i ∈ s, f i : ℝ) : EReal) = ∑ i ∈ s, (f i : EReal) := by
    intro s
    induction s using Finset.induction_on with
    | empty => simp
    | insert a s ha ih => rw [Finset.sum_insert ha, Finset.sum_insert ha, EReal.coe_add, ih]
  exact h Finset.univ

/-- The error function on the reals. -/
def erf (r : ℝ) : ℝ := 2 / Real.sqrt Real.pi * ∫ t in (0 : ℝ)..r, Real.exp (-(t ^ 2))

theorem ideal_erf (r : ℝ) : Ideal.erf (r : EReal) = (erf r : EReal) := rfl
theorem ideal_exp (r : ℝ) : Ideal.exp (r : EReal) = (Real.exp r : EReal) := rfl
theorem ideal_sqrt {r : ℝ} (h : 0 ≤ r) : Ideal.sqrt (r : EReal) = (√r : EReal) := if_neg (not_lt.mpr h)
theorem ideal_rsqrt {r : ℝ} (h : 0 < r) : Ideal.rsqrt (r : EReal) = ((√r)⁻¹ : ℝ) := by
  show (if r < 0 then ⊥ else if r = 0 then ⊤ else ((√r)⁻¹ : ℝ) : EReal) = _
  rw [if_neg (not_lt.mpr h.le), if_neg h.ne']
theorem ideal_log {r : ℝ} (h : 0 < r) : Ideal.log (r : EReal) = (Real.log r : EReal) := if_neg (not_le.mpr h)
theorem ideal_div (a : ℝ) {b : ℝ} (h : b ≠ 0) : Ideal.div (a : EReal) (b : EReal) = ((a * b⁻¹ : ℝ) : EReal) := by
  rw [Ideal.div_coe h, one_div, EReal.coe_mul]

theorem sub_self_coe (r : ℝ) : (r : EReal) - (r : EReal) = 0 := by
  rw [← EReal.coe_sub, sub_self, EReal.coe_zero]

/-! ### The network -/

/-- A row moved right or left by `d`, zeros coming in. -/
def before (d : ℕ) (f : Fin 4096 → ℝ) (t : Fin 4096) : ℝ :=
  if d ≤ t.val then f ⟨t.val - d, lt_of_le_of_lt (Nat.sub_le _ _) t.isLt⟩ else 0
def after (d : ℕ) (f : Fin 4096 → ℝ) (t : Fin 4096) : ℝ := if h : t.val + d < 4096 then f ⟨t.val + d, h⟩ else 0

/-- Three taps per channel. -/
def taps (d : ℕ) (w : Fin 192 → Fin 3 → ℝ) (h : Fin 192 → Fin 4096 → ℝ) (c : Fin 192) (t : Fin 4096) : ℝ :=
  w c 0 * before d (h c) t + w c 1 * h c t + w c 2 * after d (h c) t

def mean (y : Fin 192 → ℝ) : ℝ := (∑ c, y c) * (1 / 192)
def var (y : Fin 192 → ℝ) : ℝ := (∑ c, (y c - mean y) * (y c - mean y)) * (1 / 192)
def norm (y : Fin 192 → ℝ) (c : Fin 192) : ℝ := (y c - mean y) * (√(var y + eps))⁻¹

theorem var_nonneg (y : Fin 192 → ℝ) : 0 ≤ var y :=
  mul_nonneg (Finset.sum_nonneg fun c _ => mul_self_nonneg _) (by norm_num)

theorem root_pos (y : Fin 192 → ℝ) : 0 < var y + eps := add_pos_of_nonneg_of_pos (var_nonneg y) eps_pos

/-- The variance is the mean of the squares less the squared mean. -/
theorem var_eq (y : Fin 192 → ℝ) : (∑ c, y c * y c) * (1 / 192) - mean y * mean y = var y := by
  have h : ∑ c, (y c - mean y) * (y c - mean y) = (∑ c, y c * y c) - 2 * mean y * (∑ c, y c) + 192 * (mean y * mean y) := by
    have : ∀ c, (y c - mean y) * (y c - mean y) = y c * y c - 2 * mean y * y c + mean y * mean y := fun c => by ring
    rw [Finset.sum_congr rfl fun c _ => this c, Finset.sum_add_distrib, Finset.sum_sub_distrib, ← Finset.mul_sum]
    simp
  have hs : (∑ c, y c) = 192 * mean y := by unfold mean; ring
  unfold var; rw [h, hs]; ring

def gelu (r : ℝ) : ℝ := 1 / 2 * r * (1 + erf (r * (√2)⁻¹))

def mix (w : Fin 192 → Fin 192 → ℝ) (y : Fin 192 → ℝ) (o : Fin 192) : ℝ := ∑ i, w o i * y i

/-- One layer: taps, normalization, activation, mixing, normalization, activation, added to what came in. -/
def layer (d : ℕ) (sw : Fin 192 → Fin 3 → ℝ) (cw : Fin 192 → Fin 192 → ℝ) (h : Fin 192 → Fin 4096 → ℝ) (c : Fin 192)
    (t : Fin 4096) : ℝ :=
  h c t + gelu (norm (mix cw (fun i => gelu (norm (fun k => taps d sw h k t) i))) c)

/-- The hidden array of a conditioning row, after its three layers. -/
def hidden (w : Fin 192 → ℝ) (sw : Fin 3 → Fin 192 → Fin 3 → ℝ) (cw : Fin 3 → Fin 192 → Fin 192 → ℝ)
    (x : Fin 4096 → ℝ) : Fin 192 → Fin 4096 → ℝ :=
  layer 9 (sw 2) (cw 2) (layer 3 (sw 1) (cw 1) (layer 1 (sw 0) (cw 0) (fun c t => w c * x t)))

/-- The spline's parameters: the projection, its first twenty rows scaled. -/
def param (pw : Fin 29 → Fin 192 → ℝ) (h : Fin 192 → Fin 4096 → ℝ) (r : Fin 29) (t : Fin 4096) : ℝ :=
  (∑ c, pw r c * h c t) * (if r.val < 20 then scale else 1)

end Cert.Flow

end
-- ==== Proof.Value.Columns.lean ====
/-
  The stages of the conditioning network read at an index: each carries a real array to the real array of the model.
-/
module

public import proofs.«01_k».proof.Proof.Value.Stages
public import proofs.«01_k».proof.Proof.Value.Model
public import Idealize.ShloMosaic.Lib.Pointwise
@[expose] public section

set_option maxRecDepth 16384

noncomputable section

namespace Cert.KernelIdeal.Stages
open Idealize.ShloMosaic Idealize.SL.Sem Cert.KernelIdeal Cert.KernelIdeal.Gen Cert.Flow

/-- The array holds the real numbers `f`. -/
def Holds (X : FVec Ideal S192x4096 .f32) (f : Fin 192 → Fin 4096 → ℝ) : Prop := ∀ c t, X (ix2 c t) = (f c t : EReal)

theorem invN_eq : invN = ((1 / 192 : ℝ) : EReal) := rfl
theorem invSqrt2_eq : invSqrt2 = (((√2)⁻¹ : ℝ) : EReal) := rfl
theorem erf_coe (r : ℝ) : (FloatOps.erf (F := Ideal) (φ := .f32) (r : EReal)) = ((Cert.Flow.erf r : ℝ) : EReal) := rfl

/-! ### Taps -/

theorem before_coe (d : ℕ) (f : Fin 4096 → ℝ) (t : Fin 4096) :
    (if _h : t.val < d then (0 : EReal) else (f ⟨t.val - d, by omega⟩ : EReal)) = (before d f t : EReal) := by
  unfold before
  by_cases h : t.val < d
  · rw [dif_pos h, if_neg (by omega), EReal.coe_zero]
  · rw [dif_neg h, if_pos (by omega)]

theorem after_coe (d n : ℕ) (hn : n + d = 4096) (f : Fin 4096 → ℝ) (t : Fin 4096) :
    (if h : t.val < n then (f ⟨d + t.val, by omega⟩ : EReal) else (0 : EReal)) = (after d f t : EReal) := by
  unfold after
  by_cases h : t.val < n
  · rw [dif_pos h, dif_pos (by omega)]
    exact congrArg (fun k => (f k : EReal)) (Fin.ext (add_comm _ _))
  · rw [dif_neg h, dif_neg (by omega), EReal.coe_zero]

theorem conv1_real {h : FVec Ideal S192x4096 .f32} {w0 w1 w2 : FVec Ideal S192x1 .f32} {f : Fin 192 → Fin 4096 → ℝ}
    {sw : Fin 192 → Fin 3 → ℝ} (hh : Holds h f) (h0 : ∀ c, w0 (ix2 c 0) = (sw c 0 : EReal))
    (h1 : ∀ c, w1 (ix2 c 0) = (sw c 1 : EReal)) (h2 : ∀ c, w2 (ix2 c 0) = (sw c 2 : EReal)) :
    Holds (conv1 h w0 w1 w2) (taps 1 sw f) := by
  intro c t
  pointwise [conv1]
  simp only [hh _ _, h0, h1, h2]
  rw [before_coe 1 (f c) t, after_coe 1 4095 rfl (f c) t]
  simp only [taps, EReal.coe_add, EReal.coe_mul]

theorem conv3_real {h : FVec Ideal S192x4096 .f32} {w0 w1 w2 : FVec Ideal S192x1 .f32} {f : Fin 192 → Fin 4096 → ℝ}
    {sw : Fin 192 → Fin 3 → ℝ} (hh : Holds h f) (h0 : ∀ c, w0 (ix2 c 0) = (sw c 0 : EReal))
    (h1 : ∀ c, w1 (ix2 c 0) = (sw c 1 : EReal)) (h2 : ∀ c, w2 (ix2 c 0) = (sw c 2 : EReal)) :
    Holds (conv3 h w0 w1 w2) (taps 3 sw f) := by
  intro c t
  pointwise [conv3]
  simp only [hh _ _, h0, h1, h2]
  rw [before_coe 3 (f c) t, after_coe 3 4093 rfl (f c) t]
  simp only [taps, EReal.coe_add, EReal.coe_mul]

theorem conv9_real {h : FVec Ideal S192x4096 .f32} {w0 w1 w2 : FVec Ideal S192x1 .f32} {f : Fin 192 → Fin 4096 → ℝ}
    {sw : Fin 192 → Fin 3 → ℝ} (hh : Holds h f) (h0 : ∀ c, w0 (ix2 c 0) = (sw c 0 : EReal))
    (h1 : ∀ c, w1 (ix2 c 0) = (sw c 1 : EReal)) (h2 : ∀ c, w2 (ix2 c 0) = (sw c 2 : EReal)) :
    Holds (conv9 h w0 w1 w2) (taps 9 sw f) := by
  intro c t
  pointwise [conv9]
  simp only [hh _ _, h0, h1, h2]
  rw [before_coe 9 (f c) t, after_coe 9 4087 rfl (f c) t]
  simp only [taps, EReal.coe_add, EReal.coe_mul]

/-! ### Normalization and activation -/

theorem total_real {y : FVec Ideal S192x4096 .f32} {f : Fin 192 → Fin 4096 → ℝ} (hy : Holds y f) (t : Fin 4096) :
    total y (ix2 0 t) = ((∑ c, f c t : ℝ) : EReal) := by
  pointwise [total]
  simp only [hy _ _, coe_sum]

theorem normal_real {y : FVec Ideal S192x4096 .f32} {s : FVec Ideal S1x4096 .f32} {f : Fin 192 → Fin 4096 → ℝ}
    (hy : Holds y f) (hs : ∀ t, s (ix2 0 t) = ((∑ c, f c t : ℝ) : EReal)) :
    Holds (normal y s) (fun c t => norm (fun k => f k t) c) := by
  intro c t
  pointwise [normal, average, total]
  have hm : ((∑ c, f c t : ℝ) : EReal) * ((1 / 192 : ℝ) : EReal) = ((mean fun k => f k t : ℝ) : EReal) := by
    rw [← EReal.coe_mul]; rfl
  simp only [hy _ _, hs, invN_eq, hm, bits_eps]
  simp only [← EReal.coe_mul, ← coe_sum, ← EReal.coe_sub, ← EReal.coe_add]
  rw [var_eq fun k => f k t, ideal_rsqrt (root_pos _), ← EReal.coe_mul]
  rfl

theorem act2_real {y : FVec Ideal S192x4096 .f32} {f : Fin 192 → Fin 4096 → ℝ} (hy : Holds y f) :
    Holds (act2 y) (fun c t => 2 * gelu (f c t)) := by
  intro c t
  pointwise [act2, bell]
  simp only [hy _ _, invSqrt2_eq, ← EReal.coe_mul, erf_coe]
  rw [← EReal.coe_one, ← EReal.coe_add, ← EReal.coe_mul]
  congr 1; unfold gelu; ring

theorem act_real {y : FVec Ideal S192x4096 .f32} {f : Fin 192 → Fin 4096 → ℝ} (hy : Holds y f) :
    Holds (act y) (fun c t => gelu (f c t)) := by
  intro c t
  pointwise [act, bell]
  simp only [hy _ _, invSqrt2_eq, bits_half, ← EReal.coe_mul, erf_coe]
  rw [← EReal.coe_one, ← EReal.coe_add, ← EReal.coe_mul]
  rfl

/-! ### Mixing -/

/-- A sum over three blocks of 192 whose middle factor is zero and whose last is a difference of equals. -/
theorem blocks_sum (row : Fin 576 → EReal) (m y : Fin 192 → ℝ) (v : Fin 576 → EReal)
    (hr : ∀ i : Fin 192, row ⟨i.val, by omega⟩ = (m i : EReal)) (hz : ∀ i : Fin 192, row ⟨192 + i.val, by omega⟩ = 0)
    (hv : ∀ i : Fin 192, v ⟨i.val, by omega⟩ = (y i : EReal)) (h0 : ∀ i : Fin 192, v ⟨384 + i.val, by omega⟩ = 0) :
    ∑ x, row x * v x = ((∑ i, m i * y i : ℝ) : EReal) := by
  have e : (∑ x, row x * v x) = ∑ x : Fin (192 + 192 + 192), row (Fin.cast rfl x) * v (Fin.cast rfl x) := rfl
  rw [e, Fin.sum_univ_add, Fin.sum_univ_add, coe_sum]
  have a : ∀ i : Fin 192, row (Fin.cast rfl (Fin.castAdd 192 (Fin.castAdd 192 i)))
      * v (Fin.cast rfl (Fin.castAdd 192 (Fin.castAdd 192 i))) = ((m i * y i : ℝ) : EReal) := fun i => by
    rw [EReal.coe_mul, ← hr, ← hv]; rfl
  have b : ∀ i : Fin 192, row (Fin.cast rfl (Fin.castAdd 192 (Fin.natAdd 192 i)))
      * v (Fin.cast rfl (Fin.castAdd 192 (Fin.natAdd 192 i))) = 0 := fun i => by
    have : row (Fin.cast rfl (Fin.castAdd 192 (Fin.natAdd 192 i))) = 0 := hz i
    rw [this, zero_mul]
  have c : ∀ i : Fin 192, row (Fin.cast rfl (Fin.natAdd (192 + 192) i)) * v (Fin.cast rfl (Fin.natAdd (192 + 192) i)) = 0 :=
    fun i => by
      have : v (Fin.cast rfl (Fin.natAdd (192 + 192) i)) = 0 := h0 i
      rw [this, mul_zero]
  rw [Finset.sum_congr rfl fun i _ => a i, Finset.sum_congr rfl fun i _ => b i, Finset.sum_congr rfl fun i _ => c i]
  simp

/-- The mixing weights as the kernel holds them: halved, their column sums in row 192, a zero block in the middle. -/
structure MixWeights (wt : FVec Ideal S1x200x576 .bf16) (cw : Fin 192 → Fin 192 → ℝ) : Prop where
  top : ∀ o i : Fin 192, wt (ix3 0 ⟨o.val, by omega⟩ ⟨i.val, by omega⟩) = ((1 / 2 * cw o i : ℝ) : EReal)
  sums : ∀ i : Fin 192, wt (ix3 0 192 ⟨i.val, by omega⟩) = ((∑ o, 1 / 2 * cw o i : ℝ) : EReal)
  low : ∀ (r : Fin 200) (i : Fin 192), wt (ix3 0 r ⟨192 + i.val, by omega⟩) = 0

theorem mixed_real {y : FVec Ideal S192x4096 .f32} {wt : FVec Ideal S1x200x576 .bf16} {f : Fin 192 → Fin 4096 → ℝ}
    (hy : Holds y f) (r : Fin 200) (t : Fin 4096) (m : Fin 192 → ℝ)
    (hr : ∀ i : Fin 192, wt (ix3 0 r ⟨i.val, by omega⟩) = (m i : EReal))
    (hz : ∀ i : Fin 192, wt (ix3 0 r ⟨192 + i.val, by omega⟩) = 0) :
    mixed y wt (ix2 r t) = ((∑ i, m i * f i t : ℝ) : EReal) := by
  pointwise [mixed, split]
  refine blocks_sum (fun x => wt (ix3 0 r x)) m (fun i => f i t) _ hr hz (fun i => ?_) (fun i => ?_)
  · rw [dif_pos i.isLt]; exact hy _ _
  · rw [dif_neg (by simp; omega), dif_neg (by simp; omega), hy _ _, sub_self_coe]

theorem rest_real {h y : FVec Ideal S192x4096 .f32} {wt : FVec Ideal S1x200x576 .bf16} {f g : Fin 192 → Fin 4096 → ℝ}
    {cw : Fin 192 → Fin 192 → ℝ} (hh : Holds h f) (hy : Holds y g) (hw : MixWeights wt cw) :
    Holds (rest h y wt)
      (fun c t => f c t + gelu (norm (mix cw (fun i => gelu (norm (fun k => g k t) i))) c)) := by
  have ha := act2_real (normal_real hy (total_real hy))
  have hm : ∀ o t, ∑ i, 1 / 2 * cw o i * (2 * gelu (norm (fun k => g k t) i))
      = mix cw (fun i => gelu (norm (fun k => g k t) i)) o := fun o t =>
    Finset.sum_congr rfl fun i _ => by ring
  have htop : Holds (extractStridedSlice S192x4096 ![0, 0] (mixed (act2 (normal y (total y))) wt)
      slices_S200x4096_o0_0_S192x4096) (fun o t => mix cw (fun i => gelu (norm (fun k => g k t) i)) o) := by
    intro o t
    show _ = ((mix cw (fun i => gelu (norm (fun k => g k t) i)) o : ℝ) : EReal)
    rw [← hm, ← mixed_real ha ⟨o.val, by omega⟩ t (fun i => 1 / 2 * cw o i) (hw.top o) (hw.low _)]
    pointwise []
  have hsum : ∀ t, extractStridedSlice S1x4096 ![192, 0] (mixed (act2 (normal y (total y))) wt)
      slices_S200x4096_o192_0_S1x4096 (ix2 0 t)
      = ((∑ o, mix cw (fun i => gelu (norm (fun k => g k t) i)) o : ℝ) : EReal) := by
    intro t
    have e : ∑ o, mix cw (fun i => gelu (norm (fun k => g k t) i)) o
        = ∑ i, (∑ o, 1 / 2 * cw o i) * (2 * gelu (norm (fun k => g k t) i)) := by
      rw [← Finset.sum_congr rfl fun o _ => hm o t, Finset.sum_comm]
      exact Finset.sum_congr rfl fun i _ => (Finset.sum_mul _ _ _).symm
    rw [e, ← mixed_real ha 192 t (fun i => ∑ o, 1 / 2 * cw o i) hw.sums (hw.low _)]
    pointwise []
  intro c t
  have hn := act_real (normal_real htop hsum) c t
  show _ + _ = _
  rw [hh, hn, ← EReal.coe_add]

/-! ### The first array and the projection -/

theorem first_real {a : FVec Ideal S1x1x4096 .f32} {w : Vec Ideal S192x3 .bf16} {x : Fin 4096 → ℝ} {m : Fin 192 → ℝ}
    (ha : ∀ t, a (ix3 0 0 t) = (x t : EReal)) (h0 : ∀ c, w (ix2 c 0) = (m c : EReal)) (h1 : ∀ c, w (ix2 c 1) = 0) :
    Holds (k0_pay3 a w) (fun c t => m c * x t) := by
  intro c t
  pointwise [k0_pay3, k0_pay1]
  rw [Fin.sum_univ_three]
  simp [ha, h0, h1, sub_self_coe]

theorem params_real {h : FVec Ideal S192x4096 .f32} {w : FVec Ideal S32x576 .bf16} {f : Fin 192 → Fin 4096 → ℝ}
    {pw : Fin 29 → Fin 192 → ℝ} (hh : Holds h f)
    (hr : ∀ (r : Fin 29) (i : Fin 192),
      w (ix2 ⟨r.val, by omega⟩ ⟨i.val, by omega⟩) = ((pw r i * (if r.val < 20 then scale else 1) : ℝ) : EReal))
    (hz : ∀ (r : Fin 29) (i : Fin 192), w (ix2 ⟨r.val, by omega⟩ ⟨192 + i.val, by omega⟩) = 0) (r : Fin 29) (t : Fin 4096) :
    params h w (ix2 ⟨r.val, by omega⟩ t) = (param pw f r t : EReal) := by
  have e : param pw f r t = ∑ i, pw r i * (if r.val < 20 then scale else 1) * f i t := by
    unfold param; rw [Finset.sum_mul]; exact Finset.sum_congr rfl fun i _ => by ring
  rw [e]
  pointwise [params, split]
  refine blocks_sum (fun x => w (ix2 ⟨r.val, by omega⟩ x)) _ (fun i => f i t) _ (hr r) (hz r) (fun i => ?_) (fun i => ?_)
  · rw [dif_pos i.isLt]; exact hh _ _
  · rw [dif_neg (by simp; omega), dif_neg (by simp; omega), hh _ _, sub_self_coe]

theorem pass_ap (a : FVec Ideal S1x1x4096 .f32) (t : Fin 4096) : k0_pay50 (k0_pay1 a) (ix3 0 0 t) = a (ix3 0 0 t) := by
  pointwise [k0_pay50, k0_pay1]

end Cert.KernelIdeal.Stages

end
-- ==== Proof.Value.Spline.lean ====
/-
  The rational quadratic spline of a column: its knots and slopes over the reals, the bin a point falls in, and the
  value and log-derivative there over the extended reals (the point itself may be any extended real).
-/
module

public import proofs.«01_k».proof.Proof.Value.Model
@[expose] public section

set_option maxRecDepth 16384

noncomputable section

namespace Cert.Flow
open Idealize.ShloMosaic

/-! ### Shares, knots and slopes -/

/-- The largest of ten logits. -/
def peak (p : Fin 10 → ℝ) : ℝ := Finset.univ.sup' ⟨0, Finset.mem_univ 0⟩ p

theorem fold_peak (p : Fin 10 → ℝ) : Finset.univ.fold max (⊥ : EReal) (fun k => (p k : EReal)) = (peak p : EReal) := by
  apply le_antisymm
  · rw [Finset.fold_max_le]
    exact ⟨bot_le, fun k _ => EReal.coe_le_coe_iff.mpr (Finset.le_sup' p (Finset.mem_univ k))⟩
  · obtain ⟨k, hk, e⟩ := Finset.exists_mem_eq_sup' (⟨0, Finset.mem_univ 0⟩ : (Finset.univ : Finset (Fin 10)).Nonempty) p
    rw [Finset.le_fold_max]
    exact Or.inr ⟨k, hk, EReal.coe_le_coe_iff.mpr (le_of_eq e)⟩

/-- The sum of the exponentials, and each logit's share of it. -/
def weight (p : Fin 10 → ℝ) : ℝ := ∑ j, Real.exp (p j - peak p)
def share (p : Fin 10 → ℝ) (k : Fin 10) : ℝ := Real.exp (p k - peak p) * (weight p)⁻¹

theorem weight_pos (p : Fin 10 → ℝ) : 0 < weight p :=
  Finset.sum_pos (fun _ _ => Real.exp_pos _) ⟨0, Finset.mem_univ 0⟩
theorem share_pos (p : Fin 10 → ℝ) (k : Fin 10) : 0 < share p k := mul_pos (Real.exp_pos _) (inv_pos.mpr (weight_pos p))
theorem share_sum (p : Fin 10 → ℝ) : ∑ k, share p k = 1 := by
  unfold share; rw [← Finset.sum_mul]; exact mul_inv_cancel₀ (weight_pos p).ne'

/-- A bin's part of the interval: at least `least`. -/
def part (p : Fin 10 → ℝ) (k : Fin 10) : ℝ := least + spread * share p k

/-- The parts before knot `k`. -/
def upto (p : Fin 10 → ℝ) (k : ℕ) : ℝ := ∑ j : Fin 10, if j.val < k then part p j else 0

/-- The eleven knots on [-5, 5]. -/
def knot (p : Fin 10 → ℝ) (k : Fin 11) : ℝ :=
  if k.val < 1 then -5 else if k.val - 1 < 9 then 10 * upto p k.val - 5 else 5

theorem upto_le (p : Fin 10 → ℝ) (k : ℕ) (hk : k ≤ 9) : upto p k ≤ 1 := by
  have h1 : upto p k ≤ ∑ j : Fin 10, ((if j.val < 9 then least else 0) + spread * share p j) := by
    refine Finset.sum_le_sum fun j _ => ?_
    have := mul_pos spread_pos (share_pos p j)
    have := least_pos
    split_ifs <;> first | (unfold part; linarith) | linarith | omega
  rw [Finset.sum_add_distrib, ← Finset.mul_sum, share_sum] at h1
  have h2 : ∑ j : Fin 10, (if j.val < 9 then least else 0) = 9 * least := by
    simp only [Fin.sum_univ_succ, Fin.sum_univ_zero]; norm_num; ring
  have := nine_least
  linarith

theorem knot_le (p : Fin 10 → ℝ) (k : Fin 11) : knot p k ≤ 5 := by
  unfold knot
  split_ifs with h1 h2
  · norm_num
  · have := upto_le p k.val (by omega); linarith
  · exact le_rfl

theorem knot_last (p : Fin 10 → ℝ) : knot p 10 = 5 := by
  unfold knot; rw [if_neg (by decide), if_neg (by decide)]

/-- `log (1 + eᵘ)` in the form that does not overflow. -/
def softplus (u : ℝ) : ℝ := max u 0 + Real.log (1 + Real.exp (-|u|))

theorem softplus_eq (u : ℝ) : softplus u = Real.log (1 + Real.exp u) := by
  unfold softplus
  rcases le_total 0 u with h | h
  · rw [max_eq_left h, abs_of_nonneg h]
    have e : 1 + Real.exp u = Real.exp u * (1 + Real.exp (-u)) := by
      rw [mul_add, mul_one, ← Real.exp_add, add_neg_cancel, Real.exp_zero, add_comm]
    rw [e, Real.log_mul (Real.exp_ne_zero _) (by positivity), Real.log_exp]
  · rw [max_eq_right h, abs_of_nonpos h, neg_neg, zero_add]

/-- The slopes at the knots: one at the ends. -/
def slope (u : Fin 9 → ℝ) (k : Fin 11) : ℝ :=
  if k.val < 1 then 1 else if h : k.val - 1 < 9 then least + softplus (u ⟨k.val - 1, h⟩) else 1

/-- The logit at which the slope is one. -/
def endLogit : ℝ := Real.log (Real.exp (1 - least) - 1)

theorem endLogit_pos : 0 < Real.exp (1 - least) - 1 := by
  have h : (0 : ℝ) < 1 - least := by unfold least; norm_num
  have := Real.add_one_le_exp (1 - least)
  linarith

theorem slope_end : least + softplus endLogit = 1 := by
  rw [softplus_eq, endLogit, Real.exp_log endLogit_pos, add_sub_cancel, Real.log_exp, add_sub_cancel]

/-! ### The bin -/

/-- The point brought into [-5, 5]. -/
def inner (x : EReal) : EReal := min ((5 : ℝ) : EReal) (max ((-5 : ℝ) : EReal) x)

open Classical in
/-- How many knots lie at or below the point. -/
def below (q : Fin 11 → EReal) (x : EReal) : ℕ := (Finset.univ.filter fun k => q k ≤ x).card

theorem below_le (q : Fin 11 → EReal) (x : EReal) : below q x ≤ 11 := by
  classical
  unfold below
  exact (Finset.card_filter_le _ _).trans (by simp)

/-- The bin of a point among the knots. -/
def bin (q : Fin 11 → EReal) (x : EReal) : ℕ := min 9 (below q x - 1)

theorem bin_lt (q : Fin 11 → EReal) (x : EReal) : bin q x < 10 := by unfold bin; omega

/-- Moving the last knot up a little moves no point of the interval to another bin. -/
theorem bin_nudge (p : Fin 10 → ℝ) (x : EReal) (δ : ℝ) (hδ : 0 < δ) (q : Fin 11 → EReal)
    (hq : ∀ k : Fin 11, k.val < 10 → q k = (knot p k : EReal)) (hl : q 10 = ((5 + δ : ℝ) : EReal)) :
    bin q (inner x) = bin (fun k => (knot p k : EReal)) (inner x) := by
  classical
  have h5 : inner x ≤ ((5 : ℝ) : EReal) := min_le_left _ _
  have hlast : ¬ q 10 ≤ inner x := by
    rw [hl]; intro h
    have := h.trans h5
    rw [EReal.coe_le_coe_iff] at this
    linarith
  rcases lt_or_eq_of_le h5 with h | h
  · unfold bin below
    congr 3
    ext k
    rw [Finset.mem_filter, Finset.mem_filter]
    refine and_congr_right fun _ => ?_
    by_cases hk : k.val < 10
    · rw [hq k hk]
    · have e : k = 10 := Fin.ext (by have := k.isLt; show k.val = 10; omega)
      subst e
      refine iff_of_false hlast ?_
      show ¬ ((knot p 10 : ℝ) : EReal) ≤ _
      rw [knot_last]; exact not_le.mpr h
  · have a : below (fun k => (knot p k : EReal)) (inner x) = 11 := by
      unfold below
      rw [Finset.filter_true_of_mem fun k _ => by
        rw [h]; exact EReal.coe_le_coe_iff.mpr (knot_le p k)]
      simp
    have b : below q (inner x) = 10 := by
      unfold below
      have e : (Finset.univ.filter fun k => q k ≤ inner x) = Finset.univ.erase 10 := by
        ext k
        rw [Finset.mem_filter, Finset.mem_erase]
        constructor
        · rintro ⟨_, hk⟩
          exact ⟨fun e => hlast (e ▸ hk), Finset.mem_univ _⟩
        · rintro ⟨hk, _⟩
          refine ⟨Finset.mem_univ _, ?_⟩
          have : k.val < 10 := by
            have := k.isLt
            by_contra hc
            exact hk (Fin.ext (by show k.val = 10; omega))
          rw [hq k this, h]
          exact EReal.coe_le_coe_iff.mpr (knot_le p k)
      rw [e, Finset.card_erase_of_mem (Finset.mem_univ _)]
      simp
    unfold bin; rw [a, b]; rfl

/-! ### Value and log-derivative -/

/-- The place within the bin, its product with its complement, and the bin's mean slope. -/
def place (x c0 c1 : EReal) : EReal := Ideal.div (x - c0) (c1 - c0)
def bump (θ : EReal) : EReal := θ * (1 - θ)
def chord (c0 c1 h0 h1 : EReal) : EReal := Ideal.div (h1 - h0) (c1 - c0)

def under (δ d0 d1 θ : EReal) : EReal := δ + (d0 + d1 - ((2 : ℝ) : EReal) * δ) * bump θ
def value (h0 h1 δ d0 d1 θ : EReal) : EReal :=
  h0 + Ideal.div ((h1 - h0) * (δ * (θ * θ) + d0 * bump θ)) (under δ d0 d1 θ)
def logSlope (δ d0 d1 θ : EReal) : EReal :=
  Ideal.log (δ * δ * (d1 * (θ * θ) + ((2 : ℝ) : EReal) * δ * bump θ + d0 * ((1 - θ) * (1 - θ))))
    - ((2 : ℝ) : EReal) * Ideal.log (under δ d0 d1 θ)

/-- A table's entry at a bin, and the next one. -/
def lower (q : Fin 11 → ℝ) (b : ℕ) (hb : b < 10) : EReal := (q ⟨b, by omega⟩ : EReal)
def upper (q : Fin 11 → ℝ) (b : ℕ) (hb : b < 10) : EReal := (q ⟨1 + b, by omega⟩ : EReal)

section
variable (P : Fin 29 → ℝ) (x : EReal)

/-- The three tables of a column of parameters, and the bin of the point. -/
def wide (k : Fin 11) : ℝ := knot (fun j => P ⟨j.val, by omega⟩) k
def tall (k : Fin 11) : ℝ := knot (fun j => P ⟨10 + j.val, by omega⟩) k
def steep (k : Fin 11) : ℝ := slope (fun j => P ⟨20 + j.val, by omega⟩) k
def cell : ℕ := bin (fun k => (wide P k : EReal)) (inner x)
theorem cell_lt : cell P x < 10 := bin_lt _ _

def theta : EReal := place (inner x) (lower (wide P) (cell P x) (cell_lt P x)) (upper (wide P) (cell P x) (cell_lt P x))
def delta : EReal := chord (lower (wide P) (cell P x) (cell_lt P x)) (upper (wide P) (cell P x) (cell_lt P x))
  (lower (tall P) (cell P x) (cell_lt P x)) (upper (tall P) (cell P x) (cell_lt P x))

open Classical in
/-- The transformed point, itself outside the interval. -/
def moved : EReal :=
  if ((-5 : ℝ) : EReal) ≤ x ∧ x ≤ ((5 : ℝ) : EReal) then
    value (lower (tall P) (cell P x) (cell_lt P x)) (upper (tall P) (cell P x) (cell_lt P x)) (delta P x)
      (lower (steep P) (cell P x) (cell_lt P x)) (upper (steep P) (cell P x) (cell_lt P x)) (theta P x)
  else x
open Classical in
/-- Its log-derivative, zero outside the interval. -/
def lad : EReal :=
  if ((-5 : ℝ) : EReal) ≤ x ∧ x ≤ ((5 : ℝ) : EReal) then
    logSlope (delta P x) (lower (steep P) (cell P x) (cell_lt P x)) (upper (steep P) (cell P x) (cell_lt P x)) (theta P x)
  else 0
end

/-! ### Words -/

/-- The count of a family of one-bit words, in 32 bits. -/
theorem fold_count {n : ℕ} (q : Fin n → Bool) :
    Finset.univ.fold IntOp.addi (0#32) (fun k => BitVec.setWidth 32 (BitVec.ofBool (q k)))
      = BitVec.ofNat 32 (Finset.univ.filter fun k => q k = true).card := by
  classical
  have h : ∀ s : Finset (Fin n), s.fold IntOp.addi (0#32) (fun k => BitVec.setWidth 32 (BitVec.ofBool (q k)))
      = BitVec.ofNat 32 (s.filter fun k => q k = true).card := by
    intro s
    induction s using Finset.induction_on with
    | empty => rfl
    | insert a s ha ih =>
      rw [Finset.fold_insert ha, ih, Finset.filter_insert]
      cases hq : q a
      · simp [IntOp.addi]
      · rw [if_pos rfl, Finset.card_insert_of_notMem (fun hm => ha (Finset.mem_of_mem_filter a hm))]
        simp [IntOp.addi, BitVec.ofNat_add, BitVec.add_comm]
  exact h Finset.univ

/-- The word of the clipped bin. -/
theorem clip_word (c : ℕ) (hc : c ≤ 11) :
    IntOp.minsi (9#32) (IntOp.maxsi (0#32) (IntOp.subi (BitVec.ofNat 32 c) (1#32))) = BitVec.ofNat 32 (min 9 (c - 1)) := by
  interval_cases c <;> rfl

theorem bin_word (q : Fin 11 → EReal) (x : EReal) :
    IntOp.minsi (9#32) (IntOp.maxsi (0#32) (IntOp.subi
      (Finset.univ.fold IntOp.addi (0#32) (fun k => BitVec.setWidth 32 (BitVec.ofBool (decide (q k ≤ x))))) (1#32)))
      = BitVec.ofNat 32 (bin q x) := by
  classical
  unfold bin
  rw [fold_count, ← clip_word (below q x) (below_le q x)]
  unfold below
  simp only [decide_eq_true_eq]

/-- A one-bit word widened and made a number. -/
theorem flag_coe (b : Bool) :
    (FloatOps.sitofp (F := Ideal) .f32 (BitVec.setWidth 32 (BitVec.ofBool b))) = (if b then (1 : EReal) else 0) := by
  cases b
  · show (((BitVec.setWidth 32 (BitVec.ofBool false)).toInt : ℝ) : EReal) = 0
    simp
  · show (((BitVec.setWidth 32 (BitVec.ofBool true)).toInt : ℝ) : EReal) = 1
    have : (BitVec.setWidth 32 (BitVec.ofBool true)).toInt = 1 := by decide
    rw [this]; simp

end Cert.Flow

end
-- ==== Proof.Value.SplineKernel.lean ====
/-
  The kernel's spline, read at a place: its two tables of knots, its table of slopes, the one-hot column that picks the
  bin, and the two rows it stores.
-/
module

public import proofs.«01_k».proof.Proof.Value.Columns
public import proofs.«01_k».proof.Proof.Value.Spline
@[expose] public section

set_option maxRecDepth 16384

noncomputable section

namespace Cert.KernelIdeal.Stages
open Idealize.ShloMosaic Idealize.SL.Sem Cert.KernelIdeal Cert.KernelIdeal.Gen Cert.Flow

/-! ### Tables -/

/-- The triangle of ones the knots are summed with. -/
theorem triangle (j : Fin 10) (k : Fin 11) (h1 : ¬ k.val < 1) (h9 : k.val - 1 < 9) :
    FloatOps.sitofp (F := Ideal) .f32 (BitVec.setWidth 32 (IntOp.cmpi .sle (BitVec.ofNat 32 j.val) (BitVec.ofNat 32 (k.val - 1))))
      = if j.val < k.val then (1 : EReal) else 0 := by
  have h : IntOp.cmpi .sle (BitVec.ofNat 32 j.val) (BitVec.ofNat 32 (k.val - 1)) = BitVec.ofBool (decide (j.val < k.val)) := by
    revert h1 h9
    revert j k
    decide +kernel
  rw [h, flag_coe]
  simp only [decide_eq_true_eq]

theorem knots_real {p : FVec Ideal S10x4096 .f32} {q : Fin 10 → ℝ} {t : Fin 4096} (hp : ∀ j, p (ix2 j t) = (q j : EReal)) (k : Fin 11) :
    knots p (ix2 k t) = (knot q k : EReal) := by
  have e : ∀ j : Fin 10, Ideal.ofBits .f32 0x3A83126F#32 + Ideal.ofBits .f32 0x3F7D70A4#32 *
      Ideal.div (Ideal.exp ((q j : EReal) - Finset.univ.fold max (Ideal.ofBits .f32 0xFF800000#32) (fun i => (q i : EReal))))
        (∑ j, Ideal.exp ((q j : EReal) - Finset.univ.fold max (Ideal.ofBits .f32 0xFF800000#32) (fun i => (q i : EReal))))
      = ((part q j : ℝ) : EReal) := by
    intro j
    rw [bits_bot, bits_least, bits_spread, fold_peak]
    simp only [← EReal.coe_sub, ideal_exp, ← coe_sum]
    rw [show (∑ i, Real.exp (q i - peak q)) = weight q from rfl, ideal_div _ (weight_pos q).ne', ← EReal.coe_mul, ← EReal.coe_add]
    rfl
  pointwise [knots, k0_pay31, k0_pay26, k0_pay27, k0_pay28]
  simp only [hp, e]
  unfold knot
  split_ifs with h1 h9
  · exact bits_neg_five
  · rw [Finset.sum_congr rfl fun j _ => by rw [triangle j k h1 h9], bits_ten, bits_five]
    have : ∀ j : Fin 10, (if j.val < k.val then (1 : EReal) else 0) * ((part q j : ℝ) : EReal)
        = (((if j.val < k.val then part q j else 0 : ℝ)) : EReal) := by
      intro j; split_ifs <;> simp
    rw [Finset.sum_congr rfl fun j _ => this j, ← coe_sum, ← EReal.coe_mul, ← EReal.coe_sub]
    rfl
  · exact bits_five

/-- The logarithm of one plus an exponential, over the reals. -/
theorem softplus_coe (u : ℝ) :
    max (u : EReal) 0 + Ideal.log1p (Ideal.exp (0 - FloatOps.absf (F := Ideal) (φ := .f32) (u : EReal))) = (softplus u : EReal) := by
  have ha : FloatOps.absf (F := Ideal) (φ := .f32) (u : EReal) = ((|u| : ℝ) : EReal) := by
    show max (u : EReal) (-(u : EReal)) = _
    rw [← EReal.coe_neg]
    exact (EReal.coe_strictMono.monotone.map_max).symm
  have hm : max (u : EReal) 0 = ((max u 0 : ℝ) : EReal) := by
    rw [← EReal.coe_zero]; exact (EReal.coe_strictMono.monotone.map_max).symm
  rw [ha, hm, zero_sub, ← EReal.coe_neg, ideal_exp]
  show _ + Ideal.log (1 + _) = _
  rw [← EReal.coe_one, ← EReal.coe_add, ideal_log (by positivity), ← EReal.coe_add]
  rfl

theorem slopes_real {p : FVec Ideal S9x4096 .f32} {q : Fin 9 → ℝ} {t : Fin 4096} (hp : ∀ j, p (ix2 j t) = (q j : EReal)) (k : Fin 11) :
    slopes p (ix2 k t) = (Flow.slope q k : EReal) := by
  pointwise [slopes, k0_pay34, k0_pay33, k0_pay32]
  unfold Flow.slope
  by_cases h1 : k.val < 1
  · rw [dif_pos h1, if_pos h1]; exact EReal.coe_one.symm
  · rw [dif_neg h1, if_neg h1]
    by_cases h9 : k.val - 1 < 9
    · rw [dif_pos h9, dif_pos h9, hp, bits_least, softplus_coe, ← EReal.coe_add]
    · rw [dif_neg h9, dif_neg h9]; exact EReal.coe_one.symm

/-! ### The two rows -/

section
variable {x : FVec Ideal S1x4096 .f32} {cw ch d : FVec Ideal S11x4096 .f32} {t : Fin 4096} {P : Fin 29 → ℝ} {v : EReal}
  (hx : x (ix2 0 t) = v) (hw : ∀ k, cw (ix2 k t) = (wide P k : EReal)) (hh : ∀ k, ch (ix2 k t) = (tall P k : EReal))
  (hd : ∀ k, d (ix2 k t) = (steep P k : EReal))

include hx in
theorem inner_ap : k0_pay36 x (ix2 0 t) = inner v := by
  pointwise [k0_pay36]
  rw [hx, bits_five, bits_neg_five]; rfl

include hx hw in
theorem hot_ap (k : Fin 10) : k0_pay37 x cw (ix2 k t) = if k.val = cell P v then (1 : EReal) else 0 := by
  have hi := inner_ap (t := t) hx
  pointwise [k0_pay37]
  show FloatOps.sitofp (F := Ideal) .f32 (BitVec.setWidth 32 (IntOp.cmpi .eq (BitVec.ofNat 32 k.val)
    (IntOp.minsi (9#32) (IntOp.maxsi (0#32) (IntOp.subi (Finset.univ.fold IntOp.addi (0#32)
      (fun j : Fin 11 => BitVec.setWidth 32 (BitVec.ofBool (decide (cw (ix2 j t) ≤ k0_pay36 x (ix2 0 t)))))) (1#32)))))) = _
  rw [hi]
  simp only [hw]
  rw [bin_word]
  have hb : ∀ (b : ℕ), b < 10 → IntOp.cmpi .eq (BitVec.ofNat 32 k.val) (BitVec.ofNat 32 b) = BitVec.ofBool (decide (k.val = b)) := by
    intro b h
    have h' : ∀ (k b : Fin 10), IntOp.cmpi .eq (BitVec.ofNat 32 k.val) (BitVec.ofNat 32 b.val) = BitVec.ofBool (decide (k.val = b.val)) := by
      decide +kernel
    exact h' k ⟨b, h⟩
  rw [hb _ (bin_lt _ _), flag_coe]
  simp only [decide_eq_true_eq]
  rfl

include hx hw in
/-- Summing a column of numbers against the one-hot column picks the bin's. -/
theorem pick (f : Fin 10 → EReal) : ∑ k, f k * k0_pay37 x cw (ix2 k t) = f ⟨cell P v, cell_lt P v⟩ := by
  rw [Finset.sum_eq_single (⟨cell P v, cell_lt P v⟩ : Fin 10)]
  · rw [hot_ap hx hw, if_pos rfl, mul_one]
  · intro k _ hk
    rw [hot_ap hx hw, if_neg (fun e => hk (Fin.ext e)), mul_zero]
  · exact fun h => absurd (Finset.mem_univ _) h

include hx in
theorem inside_ap : k0_pay35 x (ix2 0 t)
    = BitVec.ofBool (decide (((-5 : ℝ) : EReal) ≤ v) && decide (v ≤ ((5 : ℝ) : EReal))) := by
  pointwise [k0_pay35]
  rw [hx, bits_five, bits_neg_five]
  cases decide (((-5 : ℝ) : EReal) ≤ v) <;> cases decide (v ≤ ((5 : ℝ) : EReal)) <;> rfl

include hx hw in
theorem left_ap : k0_pay38 x cw (ix2 0 t) = lower (wide P) (cell P v) (cell_lt P v) := by
  pointwise [k0_pay38]
  rw [pick hx hw]; exact hw _
include hx hw in
theorem width_ap : k0_pay39 x cw (ix2 0 t)
    = upper (wide P) (cell P v) (cell_lt P v) - lower (wide P) (cell P v) (cell_lt P v) := by
  have h := left_ap hx hw
  pointwise [k0_pay39]
  rw [pick hx hw, h, hw]; rfl
include hx hw hh in
theorem bottom_ap : k0_pay40 x cw ch (ix2 0 t) = lower (tall P) (cell P v) (cell_lt P v) := by
  pointwise [k0_pay40]
  rw [pick hx hw]; exact hh _
include hx hw hh in
theorem height_ap : k0_pay41 x cw ch (ix2 0 t)
    = upper (tall P) (cell P v) (cell_lt P v) - lower (tall P) (cell P v) (cell_lt P v) := by
  have h := bottom_ap hx hw hh
  pointwise [k0_pay41]
  rw [pick hx hw, h, hh]; rfl
include hx hw hh in
theorem chord_ap : k0_pay42 x cw ch (ix2 0 t) = delta P v := by
  have h := width_ap hx hw
  have h' := height_ap hx hw hh
  pointwise [k0_pay42]
  rw [h, h']; rfl

/-- Choosing by the word of a condition. -/
theorem select_both (a b : Prop) [Decidable a] [Decidable b] (u w : EReal) :
    Scalar.select (BitVec.ofBool (decide a && decide b)) u w = if a ∧ b then u else w := by
  by_cases ha : a <;> by_cases hb : b <;> simp [ha, hb, Scalar.select]

include hx hw hh hd in
theorem outRow_ap : outRow x cw ch d (ix2 0 t) = moved P v := by
  have h36 := inner_ap (t := t) hx
  have h38 := left_ap hx hw
  have h39 := width_ap hx hw
  have h40 := bottom_ap hx hw hh
  have h41 := height_ap hx hw hh
  have h42 := chord_ap hx hw hh
  have h35 := inside_ap (t := t) hx
  pointwise [outRow, k0_pay48, k0_pay47, k0_pay46, k0_pay45, k0_pay44, k0_pay43]
  rw [pick hx hw, pick hx hw, h35, h36, h38, h39, h40, h41, h42, hx, hd, hd, bits_two, mul_assoc (delta P v)]
  rw [select_both]
  unfold moved
  congr

include hx hw hh hd in
theorem ladRow_ap : ladRow x cw ch d (ix2 0 t) = lad P v := by
  have h36 := inner_ap (t := t) hx
  have h38 := left_ap hx hw
  have h39 := width_ap hx hw
  have h42 := chord_ap hx hw hh
  have h35 := inside_ap (t := t) hx
  pointwise [ladRow, k0_pay49, k0_pay47, k0_pay46, k0_pay45, k0_pay44, k0_pay43]
  rw [pick hx hw, pick hx hw, h35, h36, h38, h39, h42, hd, hd, bits_two]
  rw [select_both]
  unfold lad logSlope under bump
  rw [← mul_assoc (upper (steep P) _ _), ← mul_assoc (lower (steep P) _ _)]
  congr
end

/-! ### One half -/

section
variable {p : FVec Ideal S32x4096 .f32} {b : FVec Ideal S1x1x4096 .f32} {P : Fin 4096 → Fin 29 → ℝ}
  (hp : ∀ (r : Fin 29) (t : Fin 4096), p (ix2 ⟨r.val, Nat.lt_of_lt_of_le r.isLt (Nat.le_add_right 29 3)⟩ t) = (P t r : EReal))

include hp in
theorem widths_real (k : Fin 11) (t : Fin 4096) : widths p (ix2 k t) = (wide (P t) k : EReal) := by
  refine knots_real (fun j => ?_) k
  pointwise
  exact hp ⟨j.val, by omega⟩ t
include hp in
theorem heights_real (k : Fin 11) (t : Fin 4096) : heights p (ix2 k t) = (tall (P t) k : EReal) := by
  refine knots_real (fun j => ?_) k
  pointwise
  exact hp ⟨10 + j.val, by omega⟩ t
include hp in
theorem bends_real (k : Fin 11) (t : Fin 4096) : bends p (ix2 k t) = (steep (P t) k : EReal) := by
  refine slopes_real (fun j => ?_) k
  pointwise
  exact hp ⟨20 + j.val, by omega⟩ t

theorem row_ap (t : Fin 4096) : k0_pay2 b (ix2 0 t) = b (ix3 0 0 t) := by
  pointwise [k0_pay2]

include hp in
theorem halfRow_ap (t : Fin 4096) : halfRow p b (ix3 0 0 t) = moved (P t) (b (ix3 0 0 t)) := by
  pointwise [halfRow, k0_pay51]
  exact outRow_ap (row_ap t) (fun k => widths_real hp k t) (fun k => heights_real hp k t) (fun k => bends_real hp k t)
include hp in
theorem halfSum_ap (l : Fin 128) : halfSum p b (ix3 0 0 l) = ∑ t, lad (P t) (b (ix3 0 0 t)) := by
  pointwise [halfSum, k0_pay52]
  rw [Fin.sum_univ_one]
  exact Finset.sum_congr rfl fun t _ =>
    ladRow_ap (row_ap t) (fun k => widths_real hp k t) (fun k => heights_real hp k t) (fun k => bends_real hp k t)
end

end Cert.KernelIdeal.Stages

end
-- ==== Proof.Value.Plain.lean ====
/-
  The arguments as the real numbers they hold when they are plain, and the two results in those numbers.
-/
module

public import proofs.«01_k».proof.Proof.Value.Spline
public import Idealize.ShloMosaic.Lib.Pointwise
@[expose] public section

set_option maxRecDepth 16384

noncomputable section

namespace Cert.Flow
open Idealize.ShloMosaic

/-- An array of extended reals of some sizes. -/
abbrev Arr {r : ℕ} (s : Fin r → ℕ) : Type := FVec Ideal ⟨r, s⟩ FTy.f32

/-- The finite numbers the network reads: the conditioning row, and the weights of the opening, the taps, the mixing and the projection. -/
structure Net where
  x : Fin 16 → Fin 4096 → ℝ
  opening : Fin 192 → ℝ
  taps : Fin 3 → Fin 192 → Fin 3 → ℝ
  mixing : Fin 3 → Fin 192 → Fin 192 → ℝ
  proj : Fin 29 → Fin 192 → ℝ

/-- The parameters of the spline at a batch and a column. -/
def Net.params (N : Net) (b : Fin 16) (t : Fin 4096) (r : Fin 29) : ℝ :=
  param N.proj (hidden N.opening N.taps N.mixing (N.x b)) r t

/-- The fourteen arguments are plain: the mask and the gains one, the biases zero, the rest what the network reads. -/
structure Plain (N : Net) (x : Arr ![16, 2, 4096]) (mask : Arr ![16, 1, 4096]) (preW : Arr ![192, 1, 1]) (preB : Arr ![192])
    (sepW : Arr ![3, 192, 1, 3]) (sepB : Arr ![3, 192]) (mixW : Arr ![3, 192, 192, 1]) (mixB g1 b1 g2 b2 : Arr ![3, 192])
    (projW : Arr ![29, 192, 1]) (projB : Arr ![29]) : Prop where
  x : ∀ b t, x (ix3 b 0 t) = (N.x b t : EReal)
  mask : ∀ b t, mask (ix3 b 0 t) = 1
  preW : ∀ c, preW (ix3 c 0 0) = (N.opening c : EReal)
  preB : ∀ c, preB (ix1 c) = 0
  sepW : ∀ l c k, sepW (ix4 l c 0 k) = (N.taps l c k : EReal)
  sepB : ∀ l c, sepB (ix2 l c) = 0
  mixW : ∀ l o i, mixW (ix4 l o i 0) = (N.mixing l o i : EReal)
  mixB : ∀ l c, mixB (ix2 l c) = 0
  g1 : ∀ l c, g1 (ix2 l c) = 1
  b1 : ∀ l c, b1 (ix2 l c) = 0
  g2 : ∀ l c, g2 (ix2 l c) = 1
  b2 : ∀ l c, b2 (ix2 l c) = 0
  projW : ∀ r c, projW (ix3 r c 0) = (N.proj r c : EReal)
  projB : ∀ r, projB (ix1 r) = 0

/-- The first result at a batch: the conditioning row as it came, the other row moved by the spline. -/
def flowed (N : Net) (x : Arr ![16, 2, 4096]) (b : Fin 16) (c : Fin 2) (t : Fin 4096) : EReal :=
  if c.val = 0 then x (ix3 b 0 t) else moved (N.params b t) (x (ix3 b 1 t))
/-- The second: the sum of the log-derivatives over the row. -/
def summed (N : Net) (x : Arr ![16, 2, 4096]) (b : Fin 16) : EReal := ∑ t, lad (N.params b t) (x (ix3 b 1 t))

end Cert.Flow

end
-- ==== Proof.Value.Weights.lean ====
/-
  The arrays the kernel's host code prepares: each as a function of an argument, read at an index.
-/
module

public import proofs.«01_k».proof.Proof.Gen.KernelIdeal.Frame
public import proofs.«01_k».proof.Proof.Value.Columns
public import proofs.«01_k».proof.Proof.Value.Plain
public import Idealize.ShloMosaic.Lib.Claim
public import Idealize.ShloMosaic.Lib.StableHlo.RunRead
public import Idealize.ShloMosaic.Lib.Routing.OpsSet
@[expose] public section

set_option maxRecDepth 16384

noncomputable section

namespace Cert.KernelIdeal.Stages
open Idealize.ShloMosaic Idealize.ShloMosaic.TcCoe Idealize.SL.Sem Cert.KernelIdeal Cert.KernelIdeal.Gen Cert.Flow

/-- A column of weights and what its rounding leaves, beside one another. -/
def openingCols (a : FVec Ideal S192x1x1 .f32) : Vec Ideal S192x3 .bf16 :=
  let w : FVec Ideal S192x1 .f32 := shapeCast S192x1 a shapeCasts_S192x1x1_S192x1
  concatenate S192x3 1 [⟨S192x1, truncf .bf16 w bitsLt_bf16_f32⟩,
    ⟨S192x1, truncf .bf16 (subf w (extf .f32 (truncf .bf16 w bitsLt_bf16_f32) bitsLt_bf16_f32)) bitsLt_bf16_f32⟩,
    ⟨S192x1, truncf .bf16 w bitsLt_bf16_f32⟩] concatenates_S192x1_S192x1_S192x1_S192x3_d1
/-- The taps, three columns a layer. -/
def tapCols (a : FVec Ideal S3x192x1x3 .f32) : Vec Ideal S192x9 .f32 :=
  shapeCast S192x9 (transpose S192x3x3 [1, 0, 2] (shapeCast S3x192x3 a shapeCasts_S3x192x1x3_S3x192x3) transposes_S3x192x3_S192x3x3_1_0_2)
    shapeCasts_S192x3x3_S192x9
/-- The mixing weights halved, a row of their sums below, filled up with zeros. -/
def halved (a : FVec Ideal S3x192x192x1 .f32) : FVec Ideal S3x192x192 .f32 :=
  mulf (broadcastInDim S3x192x192 ![] bcast_S_S3x192x192 (constant S_ .f32 0x3F000000#32)) (shapeCast S3x192x192 a shapeCasts_S3x192x192x1_S3x192x192)
def extended (y : FVec Ideal S3x192x192 .f32) : FVec Ideal S3x200x192 .f32 :=
  concatenate S3x200x192 1 [⟨S3x192x192, y⟩,
    ⟨S3x1x192, broadcastInDim S3x1x192 ![0, 2] bcast_S3x192_S3x1x192_0_2 (Host.reduceAdd y (constant S_ .f32 0x00000000#32) reducesTo_S3x192x192_S3x192_d1 h_S_)⟩,
    ⟨S3x7x192, broadcastInDim S3x7x192 ![] bcast_S_S3x7x192 (constant S_ .f32 0x00000000#32)⟩] concatenates_S3x192x192_S3x1x192_S3x7x192_S3x200x192_d1
def mixingCols (z : FVec Ideal S3x200x192 .f32) : Vec Ideal S3x200x576 .bf16 :=
  concatenate S3x200x576 2 [⟨S3x200x192, truncf .bf16 z bitsLt_bf16_f32⟩,
    ⟨S3x200x192, truncf .bf16 (subf z (extf .f32 (truncf .bf16 z bitsLt_bf16_f32) bitsLt_bf16_f32)) bitsLt_bf16_f32⟩,
    ⟨S3x200x192, truncf .bf16 z bitsLt_bf16_f32⟩] concatenates_S3x200x192_S3x200x192_S3x200x192_S3x200x576_d2
/-- The projection, its first twenty rows scaled, put into an array of zeros. -/
def factors : FVec Ideal S29x192 .f32 :=
  broadcastInDim S29x192 ![0, 1] bcast_S29x1_S29x192_0_1 (concatenate S29x1 0
    [⟨S20x1, broadcastInDim S20x1 ![] bcast_S_S20x1 (constant S_ .f32 0x3D93CD3A#32)⟩,
      ⟨S9x1, broadcastInDim S9x1 ![] bcast_S_S9x1 (constant S_ .f32 0x3F800000#32)⟩] concatenates_S20x1_S9x1_S29x1_d0)
def placed (y : FVec Ideal S29x192 .f32) : FVec Ideal S32x192 .f32 :=
  Host.scatter scatter_S32x192_S1_S29x192_01_n_0_0 (fun _ b => b) (broadcastInDim S32x192 ![] bcast_S_S32x192 (constant S_ .f32 0x00000000#32))
    (broadcastInDim S1 ![] bcast_S_S1 (constantI S_ 32 0#32)) y
def projectionCols (z : FVec Ideal S32x192 .f32) : Vec Ideal S32x576 .bf16 :=
  concatenate S32x576 1 [⟨S32x192, truncf .bf16 z bitsLt_bf16_f32⟩,
    ⟨S32x192, truncf .bf16 (subf z (extf .f32 (truncf .bf16 z bitsLt_bf16_f32) bitsLt_bf16_f32)) bitsLt_bf16_f32⟩,
    ⟨S32x192, truncf .bf16 z bitsLt_bf16_f32⟩] concatenates_S32x192_S32x192_S32x192_S32x576_d1

section
variable (m : (ℓ : Loc nD τ sig) → Buf (Elt Ideal) ℓ) (c : Dev nD)

theorem entry_opening : V m c main_v5 = openingCols (m ((c : Thread nD τ).loc main_arg2)) := by
  entry_read; rfl
theorem entry_taps : V m c main_v8 = tapCols (m ((c : Thread nD τ).loc main_arg4)) := by
  entry_read; rfl
theorem entry_mixing : V m c main_v20 = mixingCols (extended (halved (m ((c : Thread nD τ).loc main_arg6)))) := by
  entry_read; rfl
theorem entry_projection : V m c main_v34
    = projectionCols (placed (mulf (shapeCast S29x192 (m ((c : Thread nD τ).loc main_arg12) : FVec Ideal S29x192x1 .f32) shapeCasts_S29x192x1_S29x192) factors)) := by
  unfold V V0
  rw [show (List.flatten [hostOps0 (F := Ideal)]) = hostOps0 from List.append_nil _]
  after_reads_simp
  have high : StableHlo.upto (hostOps0 (F := Ideal)) (fun b => m (c, b)) 41 (Proc.devRef .tc main_v30) = truncf .bf16 (placed (mulf (shapeCast S29x192 (m ((c : Thread nD τ).loc main_arg12) : FVec Ideal S29x192x1 .f32) shapeCasts_S29x192x1_S29x192) factors)) bitsLt_bf16_f32 := by
    after_reads_simp; rfl
  have low : StableHlo.upto (hostOps0 (F := Ideal)) (fun b => m (c, b)) 41 (Proc.devRef .tc main_v33) = (let z := placed (mulf (shapeCast S29x192 (m ((c : Thread nD τ).loc main_arg12) : FVec Ideal S29x192x1 .f32) shapeCasts_S29x192x1_S29x192) factors); truncf .bf16 (subf z (extf .f32 (truncf .bf16 z bitsLt_bf16_f32) bitsLt_bf16_f32)) bitsLt_bf16_f32) := by
    after_reads_simp; rfl
  exact congrArg₂ (fun (p q : FVec Ideal S32x192 .bf16) => (concatenate S32x576 1 [⟨S32x192, p⟩, ⟨S32x192, q⟩, ⟨S32x192, p⟩] concatenates_S32x192_S32x192_S32x192_S32x576_d1 : Vec Ideal S32x576 .bf16)) high low
end

/-! ### Read at an index -/

theorem openingCols_ap (a : FVec Ideal S192x1x1 .f32) (c : Fin 192) :
    openingCols a (ix2 c 0) = a (ix3 c 0 0) ∧ openingCols a (ix2 c 1) = a (ix3 c 0 0) - a (ix3 c 0 0) := by
  constructor <;> pointwise [openingCols]
theorem tapCols_ap (a : FVec Ideal S3x192x1x3 .f32) (c : Fin 192) (l k : Fin 3) :
    tapCols a (ix2 c ⟨3 * l.val + k.val, by omega⟩) = a (ix4 l c 0 k) := by
  pointwise [tapCols]
/-- The first block of columns is the array itself, the next what rounding leaves of it. -/
theorem mixingCols_ap (z : FVec Ideal S3x200x192 .f32) (l : Fin 3) (o : Fin 200) (i : Fin 192) :
    mixingCols z (ix3 l o ⟨i.val, by omega⟩) = z (ix3 l o i)
      ∧ mixingCols z (ix3 l o ⟨192 + i.val, by omega⟩) = z (ix3 l o i) - z (ix3 l o i) := by
  constructor <;> pointwise [mixingCols]
theorem projectionCols_ap (z : FVec Ideal S32x192 .f32) (o : Fin 32) (i : Fin 192) :
    projectionCols z (ix2 o ⟨i.val, by omega⟩) = z (ix2 o i)
      ∧ projectionCols z (ix2 o ⟨192 + i.val, by omega⟩) = z (ix2 o i) - z (ix2 o i) := by
  constructor <;> pointwise [projectionCols]

/-- The rows of the extended mixing weights: the weights halved, their sums, zeros. -/
def mixRow (cw : Fin 192 → Fin 192 → ℝ) (o : Fin 200) (i : Fin 192) : ℝ :=
  if h : o.val < 192 then 1 / 2 * cw ⟨o.val, h⟩ i else if o.val - 192 < 1 then ∑ k, 1 / 2 * cw k i else 0

theorem extended_real {a : FVec Ideal S3x192x192x1 .f32} {cw : Fin 3 → Fin 192 → Fin 192 → ℝ} (ha : ∀ l o i, a (ix4 l o i 0) = (cw l o i : EReal))
    (l : Fin 3) (o : Fin 200) (i : Fin 192) : extended (halved a) (ix3 l o i) = (mixRow (cw l) o i : EReal) := by
  pointwise [extended, halved]
  unfold mixRow
  simp only [ha, bits_half, ← EReal.coe_mul, ← coe_sum]
  by_cases h : o.val < 192
  · rw [dif_pos h, dif_pos h]
  rw [dif_neg h, dif_neg h]
  by_cases h1 : o.val - 192 < 1
  · rw [dif_pos h1, if_pos h1]
  · rw [dif_neg h1, if_neg h1, EReal.coe_zero]

theorem factors_ap (r : Fin 29) (i : Fin 192) : factors (ix2 r i) = ((if r.val < 20 then scale else 1 : ℝ) : EReal) := by
  pointwise [factors]
  rw [bits_scale]
  by_cases h : r.val < 20
  · rw [dif_pos h, if_pos h]
  · rw [dif_neg h, if_neg h, EReal.coe_one]

/-- The one window starts at row zero: update `(r, i)` lands at `(r, i)`. -/
theorem lands (r : Fin 29) (i : Fin 192) :
    (scatter_S32x192_S1_S29x192_01_n_0_0).resultIdx? (ix2 r i) (broadcastInDim S1 ![] bcast_S_S1 (constantI S_ 32 0#32))
      = some (ix2 ⟨r.val, by omega⟩ i) := by
  have h : ∀ a : Fin 2, (scatter_S32x192_S1_S29x192_01_n_0_0).start (ix2 r i) (broadcastInDim S1 ![] bcast_S_S1 (constantI S_ 32 0#32)) a
      + (scatter_S32x192_S1_S29x192_01_n_0_0).window (ix2 r i) a = ((ix2 r i a : ℕ) : ℤ) := by
    intro a
    match a with
    | ⟨0, _⟩ => show (0 : ℤ) + (r.val : ℤ) = (r.val : ℤ); omega
    | ⟨1, _⟩ => show (0 : ℤ) + (i.val : ℤ) = (i.val : ℤ); omega
  unfold ScatterDims.resultIdx?
  rw [dif_pos (fun a => by
    rw [h]
    match a with
    | ⟨0, _⟩ => exact ⟨Int.natCast_nonneg _, by show (r.val : ℤ) < 32; omega⟩
    | ⟨1, _⟩ => exact ⟨Int.natCast_nonneg _, by show (i.val : ℤ) < 192; omega⟩)]
  congr 1
  funext a
  apply Fin.ext
  show (_ : ℤ).toNat = _
  rw [h]
  match a with
  | ⟨0, _⟩ => rfl
  | ⟨1, _⟩ => rfl

theorem placed_ap (y : FVec Ideal S29x192 .f32) (r : Fin 29) (i : Fin 192) : placed y (ix2 ⟨r.val, by omega⟩ i) = y (ix2 r i) := by
  refine Routing.scatter_set_hit _ _ _ y _ _ (fun k hk => ?_) (ix2 r i) (lands r i)
  obtain ⟨k0, k1, rfl⟩ : ∃ (k0 : Fin 29) (k1 : Fin 192), k = ix2 k0 k1 := ⟨k 0, k 1, eq_ix2 k⟩
  rw [lands] at hk
  have h := Option.some.inj hk
  have h0 : k0.val = r.val := congrArg (fun j : (⟨2, ![32, 192]⟩ : Shape).Idx => (j 0).val) h
  have h1 : k1.val = i.val := congrArg (fun j : (⟨2, ![32, 192]⟩ : Shape).Idx => (j 1).val) h
  rw [Fin.ext h0, Fin.ext h1]

/-! ### The network of a conditioning row -/

variable {N : Net} {a2 : FVec Ideal S192x1x1 .f32} {a4 : FVec Ideal S3x192x1x3 .f32} {a6 : FVec Ideal S3x192x192x1 .f32} {a12 : FVec Ideal S29x192x1 .f32}

/-- The projection's array. -/
def projection (a : FVec Ideal S29x192x1 .f32) : Vec Ideal S32x576 .bf16 :=
  projectionCols (placed (mulf (shapeCast S29x192 a shapeCasts_S29x192x1_S29x192) factors))

theorem mixBlock_real (h6 : ∀ l o i, a6 (ix4 l o i 0) = (N.mixing l o i : EReal)) (l : Fin 3) (wt : FVec Ideal S1x200x576 .bf16)
    (hw : ∀ (o : Fin 200) (i : Fin 576), wt (ix3 0 o i) = mixingCols (extended (halved a6)) (ix3 l o i)) : MixWeights wt (N.mixing l) where
  top o i := by
    rw [hw, (mixingCols_ap _ _ _ _).1, extended_real h6]
    unfold mixRow
    rw [dif_pos o.isLt]
  sums i := by
    rw [hw, (mixingCols_ap _ _ _ _).1, extended_real h6]
    rfl
  low r i := by
    rw [hw, (mixingCols_ap _ _ _ _).2, extended_real h6, sub_self_coe]

theorem projection_real (h12 : ∀ r c, a12 (ix3 r c 0) = (N.proj r c : EReal)) (r : Fin 29) (i : Fin 192) :
    placed (mulf (shapeCast S29x192 a12 shapeCasts_S29x192x1_S29x192) factors) (ix2 ⟨r.val, by omega⟩ i)
      = ((N.proj r i * (if r.val < 20 then scale else 1) : ℝ) : EReal) := by
  rw [placed_ap]
  have e := factors_ap r i
  pointwise
  rw [e, h12, EReal.coe_mul]

theorem projected_real (h2 : ∀ c, a2 (ix3 c 0 0) = (N.opening c : EReal)) (h4 : ∀ l c k, a4 (ix4 l c 0 k) = (N.taps l c k : EReal))
    (h6 : ∀ l o i, a6 (ix4 l o i 0) = (N.mixing l o i : EReal)) (h12 : ∀ r c, a12 (ix3 r c 0) = (N.proj r c : EReal))
    {a : FVec Ideal S1x1x4096 .f32} {b : Fin 16} (ha : ∀ t, a (ix3 0 0 t) = (N.x b t : EReal)) (r : Fin 29) (t : Fin 4096) :
    projected (openingCols a2) (tapCols a4) (mixingCols (extended (halved a6))) (projection a12) a (ix2 ⟨r.val, by omega⟩ t)
      = (N.params b t r : EReal) := by
  have e0 : Holds (k0_pay3 a (View.ld (openingCols a2) r0_2)) (fun c t => N.opening c * N.x b t) :=
    first_real ha (fun c => by
        have e := (openingCols_ap a2 c).1
        pointwise [r0_2]; exact e.trans (h2 c))
      (fun c => by
        have e := (openingCols_ap a2 c).2
        pointwise [r0_2]; rw [e, h2, sub_self_coe])
  have e1 : Holds (hidden1 (openingCols a2) (tapCols a4) (mixingCols (extended (halved a6))) a)
      (layer 1 (N.taps 0) (N.mixing 0) (fun c t => N.opening c * N.x b t)) :=
    rest_real e0 (conv1_real e0
      (fun c => by have e := tapCols_ap a4 c 0 0; pointwise [r0_3]; exact e.trans (h4 0 c 0))
      (fun c => by have e := tapCols_ap a4 c 0 1; pointwise [r0_4]; exact e.trans (h4 0 c 1))
      (fun c => by have e := tapCols_ap a4 c 0 2; pointwise [r0_5]; exact e.trans (h4 0 c 2)))
      (mixBlock_real h6 0 _ (fun o i => by pointwise [r0_6]))
  have e2 : Holds (hidden2 (openingCols a2) (tapCols a4) (mixingCols (extended (halved a6))) a) (layer 3 (N.taps 1) (N.mixing 1) _) :=
    rest_real e1 (conv3_real e1
      (fun c => by have e := tapCols_ap a4 c 1 0; pointwise [r0_7]; exact e.trans (h4 1 c 0))
      (fun c => by have e := tapCols_ap a4 c 1 1; pointwise [r0_8]; exact e.trans (h4 1 c 1))
      (fun c => by have e := tapCols_ap a4 c 1 2; pointwise [r0_9]; exact e.trans (h4 1 c 2)))
      (mixBlock_real h6 1 _ (fun o i => by pointwise [r0_10]))
  have e3 : Holds (hidden3 (openingCols a2) (tapCols a4) (mixingCols (extended (halved a6))) a) (layer 9 (N.taps 2) (N.mixing 2) _) :=
    rest_real e2 (conv9_real e2
      (fun c => by have e := tapCols_ap a4 c 2 0; pointwise [r0_11]; exact e.trans (h4 2 c 0))
      (fun c => by have e := tapCols_ap a4 c 2 1; pointwise [r0_12]; exact e.trans (h4 2 c 1))
      (fun c => by have e := tapCols_ap a4 c 2 2; pointwise [r0_13]; exact e.trans (h4 2 c 2)))
      (mixBlock_real h6 2 _ (fun o i => by pointwise [r0_14]))
  exact params_real e3
    (fun r i => by
      have e := (projectionCols_ap (placed (mulf (shapeCast S29x192 a12 shapeCasts_S29x192x1_S29x192) factors)) ⟨r.val, by omega⟩ i).1
      pointwise [r0_15, projection]
      exact e.trans (projection_real h12 r i))
    (fun r i => by
      have e := (projectionCols_ap (placed (mulf (shapeCast S29x192 a12 shapeCasts_S29x192x1_S29x192) factors)) ⟨r.val, by omega⟩ i).2
      pointwise [r0_15, projection]
      rw [e, projection_real h12, sub_self_coe])
    r t

end Cert.KernelIdeal.Stages

end
-- ==== Proof.Value.KernelRun.lean ====
/-
  The kernel's arrays after its run, for plain inputs: the flow, and the sums of the logarithms.
-/
module

public import proofs.«01_k».proof.Proof.Value.Stages
public import proofs.«01_k».proof.Proof.Value.SplineKernel
public import proofs.«01_k».proof.Proof.Value.Weights
public import Idealize.ShloMosaic.Lib.Pipeline.ValueKit
@[expose] public section

set_option maxRecDepth 16384

noncomputable section

namespace Cert.KernelIdeal.Stages
open Idealize.ShloMosaic Idealize.ShloMosaic.TcCoe Idealize.SL.Sem Cert.KernelIdeal Cert.KernelIdeal.Gen Cert.Flow

section
variable (m : (ℓ : Loc nD τ sig) → Buf (Elt Ideal) ℓ) (c : Dev nD)

/-- Which block of its array a window's grid point holds. -/
theorem places : ∀ t : Fin grid0.N,
    (win0_0.index t = ![(grid0.coords t 0).val, 0, 0] ∧ win0_5.index t = ![(grid0.coords t 0).val, 0, 0]
      ∧ win0_6.index t = ![(grid0.coords t 0).val, 0, 0])
    ∧ (win0_1.index t = ![0, 0] ∧ win0_2.index t = ![0, 0] ∧ win0_3.index t = ![0, 0, 0] ∧ win0_4.index t = ![0, 0])
    ∧ (grid0.coords t 0).val = t.val := by decide +kernel

theorem block1 (t : Fin cfg0.N) : iblk m c 1 t = V m c main_v5 := by
  funext y; blk_ext [iblk, (places t).2.1.1]
theorem block2 (t : Fin cfg0.N) : iblk m c 2 t = V m c main_v8 := by
  funext y; blk_ext [iblk, (places t).2.1.2.1]
theorem block3 (t : Fin cfg0.N) : iblk m c 3 t = V m c main_v20 := by
  funext y; blk_ext [iblk, (places t).2.1.2.2.1]
theorem block4 (t : Fin cfg0.N) : iblk m c 4 t = V m c main_v34 := by
  funext y; blk_ext [iblk, (places t).2.1.2.2.2]

/-- Grid point `t`'s half `j` is batch `2 t + j`. -/
def batch (t : Fin cfg0.N) (j : Fin 2) : Fin 16 := ⟨2 * t.val + j.val, by have := t.isLt; have h : cfg0.N = 8 := by decide +kernel
                                                                          omega⟩

theorem batch_zero (t : Fin cfg0.N) : (batch t 0).val = 2 * t.val := rfl
theorem batch_one (t : Fin cfg0.N) : (batch t 1).val = 2 * t.val + 1 := rfl

theorem block0 (t : Fin cfg0.N) (j k : Fin 2) (l : Fin 4096) :
    iblk m c 0 t (ix3 j k l) = (m ((c : Thread nD τ).loc main_arg0) : FVec Ideal S16x2x4096 .f32) (ix3 (batch t j) k l) := by
  rw [← V_main_arg0 m c]
  have := (places t).2.2
  blk_ext [iblk, (places t).1.1, batch]

/-- The kernel's arguments, and that they are plain. -/
abbrev PlainArgs (N : Net) : Prop :=
  Plain N (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13))

variable {m c} {N : Net} (h : PlainArgs m c N)
include h

/-- The projected rows of a half are the spline's parameters. -/
theorem projected_block (t : Fin cfg0.N) (j : Fin 2) {a : FVec Ideal S1x1x4096 .f32}
    (ha : ∀ l, a (ix3 0 0 l) = iblk m c 0 t (ix3 j 0 l)) (r : Fin 29) (l : Fin 4096) :
    projected (iblk m c 1 t) (iblk m c 2 t) (iblk m c 3 t) (iblk m c 4 t) a (ix2 ⟨r.val, Nat.lt_of_lt_of_le r.isLt (Nat.le_add_right 29 3)⟩ l)
      = (N.params (batch t j) l r : EReal) := by
  rw [block1, block2, block3, block4, entry_opening, entry_taps, entry_mixing, entry_projection]
  exact projected_real h.preW h.sepW h.mixW h.projW (fun l => (ha l).trans ((block0 m c t j 0 l).trans (h.x _ l))) r l

theorem moved_block (t : Fin cfg0.N) (j : Fin 2) {a b : FVec Ideal S1x1x4096 .f32}
    (ha : ∀ l, a (ix3 0 0 l) = iblk m c 0 t (ix3 j 0 l)) (hb : ∀ l, b (ix3 0 0 l) = iblk m c 0 t (ix3 j 1 l)) (l : Fin 4096) :
    halfRow (projected (iblk m c 1 t) (iblk m c 2 t) (iblk m c 3 t) (iblk m c 4 t) a) b (ix3 0 0 l)
      = flowed N (m ((c : Thread nD τ).loc main_arg0)) (batch t j) 1 l := by
  rw [halfRow_ap (P := N.params (batch t j)) (projected_block h t j ha) l, hb, block0]
  rfl

theorem summed_block (t : Fin cfg0.N) (j : Fin 2) {a b : FVec Ideal S1x1x4096 .f32}
    (ha : ∀ l, a (ix3 0 0 l) = iblk m c 0 t (ix3 j 0 l)) (hb : ∀ l, b (ix3 0 0 l) = iblk m c 0 t (ix3 j 1 l)) (l : Fin 128) :
    halfSum (projected (iblk m c 1 t) (iblk m c 2 t) (iblk m c 3 t) (iblk m c 4 t) a) b (ix3 0 0 l)
      = summed N (m ((c : Thread nD τ).loc main_arg0)) (batch t j) := by
  rw [halfSum_ap (P := N.params (batch t j)) (projected_block h t j ha) l]
  refine Finset.sum_congr rfl fun l _ => ?_
  rw [hb, block0]

omit h in
theorem passed_block (t : Fin cfg0.N) (j : Fin 2) {a : FVec Ideal S1x1x4096 .f32}
    (ha : ∀ l, a (ix3 0 0 l) = iblk m c 0 t (ix3 j 0 l)) (l : Fin 4096) :
    (k0_pay50 (k0_pay1 a) : FVec Ideal S1x1x4096 .f32) (ix3 0 0 l) = flowed N (m ((c : Thread nD τ).loc main_arg0)) (batch t j) 0 l := by
  rw [pass_ap, ha, block0]
  rfl

/-- What the kernel leaves in the array of the flow. -/
def flowArr (N : Net) (x : FVec Ideal S16x2x4096 .f32) : FVec Ideal S16x2x4096 .f32 := fun i => flowed N x (i 0) (i 1) (i 2)
/-- And in the array of the sums, in every lane. -/
def sumArr (N : Net) (x : FVec Ideal S16x2x4096 .f32) : FVec Ideal S16x1x128 .f32 := fun i => summed N x (i 0)

omit h in
theorem flowArr_at {x : FVec Ideal S16x2x4096 .f32} {i : S16x2x4096.Idx} {b : Fin 16} {k : Fin 2} {l : Fin 4096}
    (e0 : (i 0).val = b.val) (e1 : (i 1).val = k.val) (e2 : (i 2).val = l.val) : flowArr N x i = flowed N x b k l := by
  obtain rfl : i 0 = b := Fin.ext e0
  obtain rfl : i 1 = k := Fin.ext e1
  obtain rfl : i 2 = l := Fin.ext e2
  rfl
omit h in
theorem sumArr_at {x : FVec Ideal S16x2x4096 .f32} {i : S16x1x128.Idx} {b : Fin 16} (e0 : (i 0).val = b.val) :
    sumArr N x i = summed N x b := by
  obtain rfl : i 0 = b := Fin.ext e0
  rfl

omit h in
/-- The four rows a grid point reads: two of either half. -/
theorem loads (t : Fin cfg0.N) (l : Fin 4096) :
    (View.ld (iblk m c 0 t) r0_0 (ix3 0 0 l) = iblk m c 0 t (ix3 0 0 l) ∧ View.ld (iblk m c 0 t) r0_1 (ix3 0 0 l) = iblk m c 0 t (ix3 0 1 l))
    ∧ View.ld (iblk m c 0 t) r0_17 (ix3 0 0 l) = iblk m c 0 t (ix3 1 0 l) ∧ View.ld (iblk m c 0 t) r0_18 (ix3 0 0 l) = iblk m c 0 t (ix3 1 1 l) := by
  refine ⟨⟨?_, ?_⟩, ?_, ?_⟩
  · pointwise [r0_0]
  · pointwise [r0_1]
  · pointwise [r0_17]
  · pointwise [r0_18]

omit h in
/-- An index of a single row is its column. -/
theorem only_row {n : ℕ} (x : Shape.Idx ⟨3, ![1, 1, n]⟩) : x = ix3 0 0 (x 2) := by
  rw [eq_ix3 x]
  congr 1 <;> exact Subsingleton.elim (α := Fin 1) _ _

theorem array5 : (dats m 0 c).arrAt 5 (cfgs 0).N = flowArr N (m ((c : Thread nD τ).loc main_arg0)) := by
  refine (dats m 0 c).arrAt_eq_of_covers 5 _ (by decide +kernel) fun t hf y => ?_
  blk_simp
  rw [after0_5, out0_5_eq]
  have ht := (places t).2.2
  canon_tiles x hx
  case piece0 =>
    rw [only_row x]
    refine (moved_block h t 1 (fun l => (loads t l).2.1) (fun l => (loads t l).2.2) (x 2)).trans (flowArr_at ?_ ?_ ?_).symm <;>
      blk_simp [(places t).1.2.1, batch_zero, batch_one] <;> omega
  case piece1 =>
    rw [only_row x]
    refine (passed_block t 1 (fun l => (loads t l).2.1) (x 2)).trans (flowArr_at ?_ ?_ ?_).symm <;>
      blk_simp [(places t).1.2.1, batch_zero, batch_one] <;> omega
  case piece2 =>
    rw [only_row x]
    refine (moved_block h t 0 (fun l => (loads t l).1.1) (fun l => (loads t l).1.2) (x 2)).trans (flowArr_at ?_ ?_ ?_).symm <;>
      blk_simp [(places t).1.2.1, batch_zero, batch_one] <;> omega
  case piece3 =>
    rw [only_row x]
    refine (passed_block t 0 (fun l => (loads t l).1.1) (x 2)).trans (flowArr_at ?_ ?_ ?_).symm <;>
      blk_simp [(places t).1.2.1, batch_zero, batch_one] <;> omega

theorem array6 : (dats m 0 c).arrAt 6 (cfgs 0).N = sumArr N (m ((c : Thread nD τ).loc main_arg0)) := by
  refine (dats m 0 c).arrAt_eq_of_covers 6 _ (by decide +kernel) fun t hf y => ?_
  blk_simp
  rw [after0_6, out0_6_eq]
  have ht := (places t).2.2
  canon_tiles x hx
  case piece0 =>
    rw [only_row x]
    refine (summed_block h t 1 (fun l => (loads t l).2.1) (fun l => (loads t l).2.2) (x 2)).trans (sumArr_at ?_).symm
    blk_simp [(places t).1.2.2, batch_zero, batch_one]; omega
  case piece1 =>
    rw [only_row x]
    refine (summed_block h t 0 (fun l => (loads t l).1.1) (fun l => (loads t l).1.2) (x 2)).trans (sumArr_at ?_).symm
    blk_simp [(places t).1.2.2, batch_zero, batch_one]; omega

/-- The host's last two operations take one lane of each batch's sum. -/
theorem tail : Pipeline.afterTail₀ cfgs (dats m) 0 (V0 m) [hostOps1] c main_v37
    = fun i : S16.Idx => summed N (m ((c : Thread nD τ).loc main_arg0)) (i 0) := by
  have e : Pipeline.withArrays spec0 c (V0 m c) (fun w => (dats m 0 c).arrAt w (cfgs 0).N) (Proc.devRef .tc main_v35_1)
      = sumArr N (m ((c : Thread nD τ).loc main_arg0)) :=
    (Pipeline.withArrays_arr spec0 (by decide) c _ _ 6).trans (array6 h)
  unfold Pipeline.afterTail₀
  rw [show (List.flatten [hostOps1 (F := Ideal)]) = hostOps1 from List.append_nil _]
  after_reads_simp
  funext i
  refine (congrFun (congrArg (fun a : FVec Ideal S16x1x128 .f32 => shapeCast S16 (extractStridedSlice S16x1x1 ![0, 0, 0] a slices_S16x1x128_S16x1x1_0_0_0)
    shapeCasts_S16x1x1_S16) e) i).trans ?_
  rw [eq_ix1 i]
  pointwise [sumArr]

end

/-- The run of the kernel on plain arguments: its two results, and the arguments as they were. -/
theorem run_plain (m : (ℓ : Loc nD τ sig) → Buf (Elt Ideal) ℓ) (ρ : Dev nD → PrngReg) (N : Dev nD → Net) (hN : ∀ c, PlainArgs m c (N c)) :
    θ_run defs (onTc (τ := τ) (main (F := Ideal))) ⟨m, fun _ => 0, ρ⟩ fun r => ∀ c : Dev nD,
      r.2.mem ((c.tc : Thread nD τ).loc main_v35_0) = flowArr (N c) (m ((c : Thread nD τ).loc main_arg0))
      ∧ r.2.mem ((c.tc : Thread nD τ).loc main_v37) = (fun i : S16.Idx => summed (N c) (m ((c : Thread nD τ).loc main_arg0)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c =>
    ⟨((h c).1 5).trans (array5 (hN c)),
      ((h c).2 main_v37 (Pipeline.mem_restRefs_of main_v37 (by decide) (by decide))).trans (tail (hN c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c)⟩)
    (run_main m ρ)

end Cert.KernelIdeal.Stages

end
-- ==== Proof.Value.RefStages.lean ====
/-
  The reference's conditioning network: its stages as functions of arrays, each read at an index of one batch and
  carried to the model's real numbers.
-/
module

public import proofs.«01_k».proof.Proof.Gen.ReferenceIdeal.Run
public import proofs.«01_k».proof.Proof.Value.Model
public import Idealize.ShloMosaic.Lib.Pointwise
public import Idealize.ShloMosaic.Lib.Tactic.CleanTypes
@[expose] public section

set_option maxRecDepth 16384

noncomputable section

namespace Cert.ReferenceIdeal.Stages
open Idealize.ShloMosaic Idealize.SL.Sem Cert.ReferenceIdeal Cert.ReferenceIdeal.Gen Cert.ReferenceIdeal.Value Cert.Flow

/-- The hidden array, a row per batch, and a vector with an entry per channel. -/
local notation "Hidden" => FVec Ideal S16x192x4096 FTy.f32
local notation "Row" => FVec Ideal S16x1x4096 FTy.f32
local notation "Chan" => FVec Ideal S192 FTy.f32

/-! ### The stages -/

def spreadOut (w : Chan) : Hidden :=
  broadcastInDim S16x192x4096 ![0, 1, 2] bcast_S1x192x1_S16x192x4096_0_1_2 (broadcastInDim S1x192x1 ![1] bcast_S192_S1x192x1_1 w)
def rowOut (k : Row) : Hidden := broadcastInDim S16x192x4096 ![0, 1, 2] bcast_S16x1x4096_S16x192x4096_0_1_2 k
def fill (n : BitVec 32) : Hidden := broadcastInDim S16x192x4096 ![] bcast_S_S16x192x4096 (constant S_ .f32 n)
def fillRow (n : BitVec 32) : Row := broadcastInDim S16x1x4096 ![] bcast_S_S16x1x4096 (constant S_ .f32 n)

/-- The three taps of a channel, spread out. -/
def tap0 (w : FVec Ideal S192x1x3 .f32) : Hidden :=
  spreadOut (shapeCast _ (extractStridedSlice S192x1x1 ![0, 0, 0] w slices_S192x1x3_S192x1x1_0_0_0) shapeCasts_S192x1x1_S192)
def tap1 (w : FVec Ideal S192x1x3 .f32) : Hidden :=
  spreadOut (shapeCast _ (extractStridedSlice S192x1x1 ![0, 0, 1] w slices_S192x1x3_S192x1x1_0_0_1) shapeCasts_S192x1x1_S192)
def tap2 (w : FVec Ideal S192x1x3 .f32) : Hidden :=
  spreadOut (shapeCast _ (extractStridedSlice S192x1x1 ![0, 0, 2] w slices_S192x1x3_S192x1x1_0_0_2) shapeCasts_S192x1x1_S192)

def pad1 (y : Hidden) : FVec Ideal S16x192x4098 .f32 :=
  pad S16x192x4098 ![0, 0, 1] ![0, 0, 1] ![0, 0, 0] y (sitofp .f32 (constantI S_ 32 0#32)) pads_S16x192x4096_S16x192x4098_000_000_110 h_S_
def pad3 (y : Hidden) : FVec Ideal S16x192x4102 .f32 :=
  pad S16x192x4102 ![0, 0, 3] ![0, 0, 3] ![0, 0, 0] y (sitofp .f32 (constantI S_ 32 0#32)) pads_S16x192x4096_S16x192x4102_000_000_330 h_S_
def pad9 (y : Hidden) : FVec Ideal S16x192x4114 .f32 :=
  pad S16x192x4114 ![0, 0, 9] ![0, 0, 9] ![0, 0, 0] y (sitofp .f32 (constantI S_ 32 0#32)) pads_S16x192x4096_S16x192x4114_000_000_990 h_S_

def conv1 (y : Hidden) (w : FVec Ideal S192x1x3 .f32) (b : Chan) : Hidden :=
  addf (addf (addf (mulf (extractStridedSlice S16x192x4096 ![0, 0, 0] (pad1 y) slices_S16x192x4098_S16x192x4096_0_0_0) (tap0 w))
    (mulf (extractStridedSlice S16x192x4096 ![0, 0, 1] (pad1 y) slices_S16x192x4098_S16x192x4096_0_0_1) (tap1 w)))
    (mulf (extractStridedSlice S16x192x4096 ![0, 0, 2] (pad1 y) slices_S16x192x4098_S16x192x4096_0_0_2) (tap2 w))) (spreadOut b)
def conv3 (y : Hidden) (w : FVec Ideal S192x1x3 .f32) (b : Chan) : Hidden :=
  addf (addf (addf (mulf (extractStridedSlice S16x192x4096 ![0, 0, 0] (pad3 y) slices_S16x192x4102_S16x192x4096_0_0_0) (tap0 w))
    (mulf (extractStridedSlice S16x192x4096 ![0, 0, 3] (pad3 y) slices_S16x192x4102_S16x192x4096_0_0_3) (tap1 w)))
    (mulf (extractStridedSlice S16x192x4096 ![0, 0, 6] (pad3 y) slices_S16x192x4102_S16x192x4096_0_0_6) (tap2 w))) (spreadOut b)
def conv9 (y : Hidden) (w : FVec Ideal S192x1x3 .f32) (b : Chan) : Hidden :=
  addf (addf (addf (mulf (extractStridedSlice S16x192x4096 ![0, 0, 0] (pad9 y) slices_S16x192x4114_S16x192x4096_0_0_0) (tap0 w))
    (mulf (extractStridedSlice S16x192x4096 ![0, 0, 9] (pad9 y) slices_S16x192x4114_S16x192x4096_0_0_9) (tap1 w)))
    (mulf (extractStridedSlice S16x192x4096 ![0, 0, 18] (pad9 y) slices_S16x192x4114_S16x192x4096_0_0_18) (tap2 w))) (spreadOut b)

/-- The mean over the channels, the normalization, the activation and the mixing of channels. -/
def average (y : Hidden) : Row :=
  Host.divf (broadcastInDim S16x1x4096 ![0, 2] bcast_S16x4096_S16x1x4096_0_2
    (Host.reduceAdd y (constant S_ .f32 0x00000000#32) reducesTo_S16x192x4096_S16x4096_d1 h_S_)) (fillRow 0x43400000#32)
def centred (y : Hidden) : Hidden := subf y (rowOut (average y))
def normal (y : Hidden) (g b : Chan) : Hidden :=
  addf (mulf (Host.divf (centred y) (rowOut (Host.sqrt (addf (average (mulf (centred y) (centred y))) (fillRow 0x3727C5AC#32)))))
    (spreadOut g)) (spreadOut b)
def bell (y : Hidden) : Hidden :=
  mulf (mulf (fill 0x3F000000#32) y) (addf (fill 0x3F800000#32)
    (Host.erf (Host.divf y (broadcastInDim S16x192x4096 ![] bcast_S_S16x192x4096 (Host.sqrt (constant S_ .f32 0x40000000#32))))))
def mixed (y : Hidden) (w : FVec Ideal S192x192 .f32) (b : Chan) : Hidden :=
  addf (transpose S16x192x4096 [0, 2, 1] (Host.dotGeneral dot_S16x192x4096_S192x192_S16x4096x192_1_1_02_0_n_n none y w)
    transposes_S16x4096x192_S16x192x4096_0_2_1) (spreadOut b)
/-- What a layer makes of its taps `y` and what came in, `h`. -/
def body (h y : Hidden) (g1 b1 : Chan) (w : FVec Ideal S192x192 .f32) (b : Chan) (g2 b2 : Chan) : Hidden :=
  addf h (bell (normal (mixed (bell (normal y g1 b1)) w b) g2 b2))

/-! ### Read at an index -/

variable {b : Fin 16}

/-- Batch `b` of the array holds the real numbers `f`. -/
def Holds (b : Fin 16) (X : Hidden) (f : Fin 192 → Fin 4096 → ℝ) : Prop := ∀ c t, X (ix3 b c t) = (f c t : EReal)
/-- A vector is all zeros, or all ones. -/
def Zero (w : Chan) : Prop := ∀ c, w (ix1 c) = 0
def One (w : Chan) : Prop := ∀ c, w (ix1 c) = 1

theorem masked_real {X : Hidden} {f : Fin 192 → Fin 4096 → ℝ} {k : Row} (h : Holds b X f) (hk : ∀ t, k (ix3 b 0 t) = 1) :
    Holds b (mulf X (rowOut k)) f := by
  intro c t
  pointwise [rowOut]
  rw [hk, mul_one, h c t]

theorem zero_word : FloatOps.sitofp (F := Ideal) .f32 (0#32) = (0 : EReal) := by
  show (((0#32 : BitVec 32).toInt : ℝ) : EReal) = 0
  simp

theorem earlier (d : ℕ) (f : Fin 4096 → ℝ) (t : Fin 4096) :
    (if h : d ≤ t.val ∧ t.val - d < 4096 then ((f ⟨t.val - d, h.2⟩ : ℝ) : EReal) else 0) = (before d f t : EReal) := by
  have := t.isLt
  unfold before
  by_cases h : d ≤ t.val
  · rw [dif_pos ⟨h, by omega⟩, if_pos h]
  · rw [dif_neg (fun e => h e.1), if_neg h, EReal.coe_zero]

theorem later (d : ℕ) (f : Fin 4096 → ℝ) (t : Fin 4096) :
    (if h : d ≤ d + d + t.val ∧ d + d + t.val - d < 4096 then ((f ⟨d + d + t.val - d, h.2⟩ : ℝ) : EReal) else 0) = (after d f t : EReal) := by
  have := t.isLt
  unfold after
  by_cases h : t.val + d < 4096
  · rw [dif_pos ⟨by omega, by omega⟩, dif_pos h]
    congr 3; omega
  · rw [dif_neg (fun e => h (by omega)), dif_neg h, EReal.coe_zero]

/-- The taps of the model, in the order the reference sums them. -/
theorem taps_coe (d : ℕ) (sw : Fin 192 → Fin 3 → ℝ) (f : Fin 192 → Fin 4096 → ℝ) (c : Fin 192) (t : Fin 4096) :
    (before d (f c) t : EReal) * (sw c 0 : EReal) + (f c t : EReal) * (sw c 1 : EReal) + (after d (f c) t : EReal) * (sw c 2 : EReal) + 0
      = (taps d sw f c t : EReal) := by
  rw [add_zero, ← EReal.coe_mul, ← EReal.coe_mul, ← EReal.coe_mul, ← EReal.coe_add, ← EReal.coe_add]
  unfold taps
  rw [mul_comm (sw c 0), mul_comm (sw c 1), mul_comm (sw c 2)]

section
variable {y : Hidden} {w : FVec Ideal S192x1x3 .f32} {v : Chan} {f : Fin 192 → Fin 4096 → ℝ} {sw : Fin 192 → Fin 3 → ℝ}
  (hy : Holds b y f) (hw : ∀ c k, w (ix3 c 0 k) = (sw c k : EReal)) (hv : Zero v)
include hy hw hv

theorem conv1_real : Holds b (conv1 y w v) (taps 1 sw f) := by
  intro c t
  pointwise [conv1, pad1, tap0, tap1, tap2, spreadOut]
  rw [hw, hw, hw, hv c, hy c t, zero_word]
  simp only [hy c _]
  rw [earlier 1 (f c) t, later 1 (f c) t, taps_coe]
theorem conv3_real : Holds b (conv3 y w v) (taps 3 sw f) := by
  intro c t
  pointwise [conv3, pad3, tap0, tap1, tap2, spreadOut]
  rw [hw, hw, hw, hv c, hy c t, zero_word]
  simp only [hy c _]
  rw [earlier 3 (f c) t, later 3 (f c) t, taps_coe]
theorem conv9_real : Holds b (conv9 y w v) (taps 9 sw f) := by
  intro c t
  pointwise [conv9, pad9, tap0, tap1, tap2, spreadOut]
  rw [hw, hw, hw, hv c, hy c t, zero_word]
  simp only [hy c _]
  rw [earlier 9 (f c) t, later 9 (f c) t, taps_coe]
end

theorem average_real {y : Hidden} {f : Fin 192 → Fin 4096 → ℝ} (hy : Holds b y f) (t : Fin 4096) :
    average y (ix3 b 0 t) = (((∑ c, f c t) * (1 / 192) : ℝ) : EReal) := by
  pointwise [average, fillRow]
  rw [Finset.sum_congr rfl fun c _ => hy c t, ← coe_sum, bits_channels, ideal_div _ (by norm_num), one_div]

theorem centred_real {y : Hidden} {f : Fin 192 → Fin 4096 → ℝ} (hy : Holds b y f) :
    Holds b (centred y) (fun c t => f c t - mean (fun k => f k t)) := by
  intro c t
  have h := average_real hy t
  pointwise [centred, rowOut]
  rw [h, hy c t, ← EReal.coe_sub]; rfl

theorem square_real {y : Hidden} {f : Fin 192 → Fin 4096 → ℝ} (hy : Holds b y f) : Holds b (mulf y y) (fun c t => f c t * f c t) := by
  intro c t
  pointwise
  rw [hy c t, EReal.coe_mul]

theorem normal_real {y : Hidden} {g z : Chan} {f : Fin 192 → Fin 4096 → ℝ} (hy : Holds b y f) (hg : One g) (hz : Zero z) :
    Holds b (normal y g z) (fun c t => norm (fun k => f k t) c) := by
  intro c t
  have h := centred_real hy c t
  have hv := average_real (square_real (centred_real hy)) t
  pointwise [normal, rowOut, spreadOut, fillRow]
  rw [h, hv, hg, hz, mul_one, add_zero, bits_eps, ← EReal.coe_add]
  rw [show (∑ c, (f c t - mean fun k => f k t) * (f c t - mean fun k => f k t)) * (1 / 192) = var (fun k => f k t) from rfl]
  rw [ideal_sqrt (root_pos _).le, ideal_div _ (Real.sqrt_pos.mpr (root_pos _)).ne']
  rfl

theorem bell_real {y : Hidden} {f : Fin 192 → Fin 4096 → ℝ} (hy : Holds b y f) : Holds b (bell y) (fun c t => gelu (f c t)) := by
  intro c t
  pointwise [bell, fill]
  rw [hy c t, bits_half, bits_two, ideal_sqrt (by norm_num), ideal_div _ (by positivity)]
  rw [show Ideal.erf _ = _ from ideal_erf _, ← EReal.coe_one, ← EReal.coe_add, ← EReal.coe_mul, ← EReal.coe_mul]
  rfl

theorem mixed_real {y : Hidden} {w : FVec Ideal S192x192 .f32} {z : Chan} {f : Fin 192 → Fin 4096 → ℝ} {cw : Fin 192 → Fin 192 → ℝ}
    (hy : Holds b y f) (hw : ∀ o i, w (ix2 o i) = (cw o i : EReal)) (hz : Zero z) :
    Holds b (mixed y w z) (fun o t => mix cw (fun i => f i t) o) := by
  intro o t
  pointwise [mixed, spreadOut]
  rw [hz, add_zero, Finset.sum_congr rfl fun i _ => by rw [hy i t, hw o i, mul_comm, ← EReal.coe_mul], ← coe_sum]
  rfl

theorem body_real {h y : Hidden} {g1 b1 z g2 b2 : Chan} {w : FVec Ideal S192x192 .f32} {f g : Fin 192 → Fin 4096 → ℝ}
    {cw : Fin 192 → Fin 192 → ℝ} (hh : Holds b h f) (hy : Holds b y g) (hg1 : One g1) (hb1 : Zero b1)
    (hw : ∀ o i, w (ix2 o i) = (cw o i : EReal)) (hz : Zero z) (hg2 : One g2) (hb2 : Zero b2) :
    Holds b (body h y g1 b1 w z g2 b2)
      (fun c t => f c t + gelu (norm (mix cw (fun i => gelu (norm (fun k => g k t) i))) c)) := by
  intro c t
  have e := bell_real (normal_real (mixed_real (bell_real (normal_real hy hg1 hb1)) hw hz) hg2 hb2) c t
  pointwise [body]
  rw [e, hh c t, ← EReal.coe_add]

end Cert.ReferenceIdeal.Stages

end
-- ==== Proof.Value.Host.lean ====
/-
  Two host operations of the reference read at an index: the prefix sum along the last axis (a window sum), and the
  gather that takes, at every batch and column, one entry of a table.
-/
module

public import proofs.«01_k».proof.ReferenceIdeal
public import Idealize.ShloMosaic.Lib.Pointwise
@[expose] public section

set_option maxRecDepth 16384

noncomputable section

namespace Cert.Flow
open Idealize.ShloMosaic

/-! ### The gather -/

/-- The dimension numbers of the gather: a table of `K` entries per batch and column, one index each. -/
def pickDims {K : ℕ} (wf : GatherDims.WF ⟨4, ![16, 1, 4096, K]⟩ ⟨4, ![16, 4096, 1, 1]⟩ ⟨4, ![16, 1, 4096, 1]⟩ [1] [3] [0, 2] [3] [0, 1] 3 ![1, 1, 1, 1]) :
    GatherDims ⟨4, ![16, 1, 4096, K]⟩ ⟨4, ![16, 4096, 1, 1]⟩ ⟨4, ![16, 1, 4096, 1]⟩ where
  offsetDims := [1]
  collapsedSliceDims := [3]
  operandBatchingDims := [0, 2]
  startIndicesBatchingDims := [0, 1]
  startIndexMap := [3]
  indexVectorDim := 3
  sliceSizes := ![1, 1, 1, 1]
  wf := wf

theorem pick_ap {α : Type} {K : ℕ}
    (wf : GatherDims.WF ⟨4, ![16, 1, 4096, K]⟩ ⟨4, ![16, 4096, 1, 1]⟩ ⟨4, ![16, 1, 4096, 1]⟩ [1] [3] [0, 2] [3] [0, 1] 3 ![1, 1, 1, 1])
    (x : (⟨4, ![16, 1, 4096, K]⟩ : Shape).Idx → α) (idx : IVec ⟨4, ![16, 4096, 1, 1]⟩ 32) (b : Fin 16) (t : Fin 4096) {k : ℕ} (hk : k < K)
    (h31 : k < 2 ^ 31) (hi : idx (ix4 b t 0 0) = BitVec.ofNat 32 k) :
    Host.gather (pickDims wf) x idx (ix4 b 0 t 0) = x (ix4 b 0 t ⟨k, hk⟩) := by
  unfold Host.gather
  congr 1
  funext a
  apply Fin.ext
  match a with
  | ⟨0, _⟩ => show (0 : ℕ) + b.val + 0 = b.val; omega
  | ⟨1, _⟩ => rfl
  | ⟨2, _⟩ => show (0 : ℕ) + t.val + 0 = t.val; omega
  | ⟨3, _⟩ =>
    have e : (pickDims wf).siIdx (ix4 b 0 t 0) ⟨0, Nat.zero_lt_one⟩ = ix4 b t 0 0 := by
      funext c
      apply Fin.ext
      match c with
      | ⟨0, _⟩ => rfl
      | ⟨1, _⟩ => rfl
      | ⟨2, _⟩ => rfl
      | ⟨3, _⟩ => rfl
    show min (idx ((pickDims wf).siIdx (ix4 b 0 t 0) ⟨0, _⟩)).toInt.toNat (K - 1) + 0 + 0 = k
    rw [e, hi, show (BitVec.ofNat 32 k).toInt = (k : ℤ) by
      rw [BitVec.toInt_eq_toNat_of_lt] <;> rw [BitVec.toNat_ofNat] <;> omega]
    simp only [Int.toNat_natCast]
    omega

/-! ### The prefix sum -/

/-- A position of the window is its last coordinate. -/
def lane : (⟨4, ![1, 1, 1, 10]⟩ : Shape).Idx ≃ Fin 10 where
  toFun i := i 3
  invFun k := ix4 0 0 0 k
  left_inv i := by
    funext a
    match a with
    | ⟨0, _⟩ => exact (Subsingleton.elim (α := Fin 1) _ _)
    | ⟨1, _⟩ => exact (Subsingleton.elim (α := Fin 1) _ _)
    | ⟨2, _⟩ => exact (Subsingleton.elim (α := Fin 1) _ _)
    | ⟨3, _⟩ => rfl
  right_inv _ := rfl

/-- A window of ten that ends at `k`, nine places of padding before the row: its sum is the sum up to `k`. -/
theorem sum_window (g : ℕ → EReal) (k : Fin 10) :
    (∑ w : Fin 10, if 9 ≤ k.val + w.val then g (k.val + w.val - 9) else 0) = ∑ j : Fin 10, if j.val ≤ k.val then g j.val else 0 := by
  rw [← Finset.sum_filter, ← Finset.sum_filter]
  refine Finset.sum_nbij' (fun w => ⟨k.val + w.val - 9, by omega⟩) (fun j => ⟨(j.val + 9 - k.val) % 10, by omega⟩) ?_ ?_ ?_ ?_ ?_
  · intro w hw
    rw [Finset.mem_filter] at hw ⊢
    exact ⟨Finset.mem_univ _, by have := w.isLt; show k.val + w.val - 9 ≤ k.val; omega⟩
  · intro j hj
    rw [Finset.mem_filter] at hj ⊢
    exact ⟨Finset.mem_univ _, by have := hj.2; show 9 ≤ k.val + (j.val + 9 - k.val) % 10; omega⟩
  · intro w hw
    have := (Finset.mem_filter.mp hw).2
    apply Fin.ext
    show (k.val + w.val - 9 + 9 - k.val) % 10 = w.val
    omega
  · intro j hj
    have := (Finset.mem_filter.mp hj).2
    apply Fin.ext
    show k.val + (j.val + 9 - k.val) % 10 - 9 = j.val
    omega
  · intro w hw; rfl

theorem prefix_ap (x : FVec Ideal ⟨4, ![16, 1, 4096, 10]⟩ .f32) (init : FVec Ideal ⟨0, ![]⟩ .f32) (hu : 0 < (⟨0, ![]⟩ : Shape).numel)
    (hz : init ix0 = (0 : EReal))
    (h : (⟨4, ![16, 1, 4096, 10]⟩ : Shape).ReduceWindows (![1, 1, 1, 10] : Fin 4 → ℕ) ![1, 1, 1, 1] ![0, 0, 0, 9] ![0, 0, 0, 0] ⟨4, ![16, 1, 4096, 10]⟩)
    (b : Fin 16) (t : Fin 4096) (k : Fin 10) :
    Host.reduceWindowAdd (F := Ideal) (φ := .f32) ![1, 1, 1, 10] ![1, 1, 1, 1] ![0, 0, 0, 9] ![0, 0, 0, 0] x init h hu (ix4 b 0 t k)
      = ∑ j : Fin 10, if j.val ≤ k.val then x (ix4 b 0 t j) else (0 : EReal) := by
  have hv : init (Shape.Idx.first hu) = (0 : EReal) := (congrArg init (funext fun a => a.elim0)).trans hz
  show Ideal.hostReduceWindowAdd _ _ _ _ h x (init (Shape.Idx.first hu)) (ix4 b 0 t k) = _
  rw [hv]
  unfold Ideal.hostReduceWindowAdd Host.reduceWindow
  dsimp only
  refine (sum_idx_eq_foldl ⟨4, ![1, 1, 1, 10]⟩ (fun i => @dite EReal (∀ a : Fin 4, (![0, 0, 0, 9] : Fin 4 → ℕ) a ≤
      (ix4 b 0 t k (a.cast h.1.symm)).val * (![1, 1, 1, 1] : Fin 4 → ℕ) a + (i a).val ∧
      (ix4 b 0 t k (a.cast h.1.symm)).val * (![1, 1, 1, 1] : Fin 4 → ℕ) a + (i a).val - (![0, 0, 0, 9] : Fin 4 → ℕ) a < (![16, 1, 4096, 10] : Fin 4 → ℕ) a)
      (Nat.decidableForallFin _)
      (fun hin => x (fun a => ⟨(ix4 b 0 t k (a.cast h.1.symm)).val * (![1, 1, 1, 1] : Fin 4 → ℕ) a + (i a).val - (![0, 0, 0, 9] : Fin 4 → ℕ) a, (hin a).2⟩))
      (fun _ => 0))).symm.trans ?_
  rw [← Equiv.sum_comp lane.symm]
  have hs := sum_window (fun n => if hn : n < 10 then x (ix4 b 0 t ⟨n, hn⟩) else 0) k
  simp only [Fin.isLt, dif_pos] at hs
  rw [← hs]
  refine Finset.sum_congr rfl fun w _ => ?_
  have hk := k.isLt
  have hw := w.isLt
  by_cases h9 : 9 ≤ k.val + w.val
  · rw [if_pos h9, dif_pos (show k.val + w.val - 9 < 10 by omega), dif_pos]
    · congr 1
      funext a
      apply Fin.ext
      match a with
      | ⟨0, _⟩ => show b.val * 1 + 0 - 0 = b.val; omega
      | ⟨1, _⟩ => rfl
      | ⟨2, _⟩ => show t.val * 1 + 0 - 0 = t.val; omega
      | ⟨3, _⟩ => show k.val * 1 + w.val - 9 = k.val + w.val - 9; omega
    · intro a
      match a with
      | ⟨0, _⟩ => show 0 ≤ b.val * 1 + 0 ∧ b.val * 1 + 0 - 0 < 16; omega
      | ⟨1, _⟩ => show 0 ≤ 0 * 1 + 0 ∧ 0 * 1 + 0 - 0 < 1; omega
      | ⟨2, _⟩ => show 0 ≤ t.val * 1 + 0 ∧ t.val * 1 + 0 - 0 < 4096; omega
      | ⟨3, _⟩ => show 9 ≤ k.val * 1 + w.val ∧ k.val * 1 + w.val - 9 < 10; omega
  · rw [if_neg h9, dif_neg]
    intro hin
    have : 9 ≤ k.val * 1 + w.val := (hin 3).1
    omega

end Cert.Flow

end
-- ==== Proof.Value.RefSpline.lean ====
/-
  The reference's spline: its stages as functions of arrays, each read at a batch and a column and carried to the model.
-/
module

public import proofs.«01_k».proof.Proof.Value.RefStages
public import proofs.«01_k».proof.Proof.Value.Spline
public import proofs.«01_k».proof.Proof.Value.Host
@[expose] public section

set_option maxRecDepth 16384

noncomputable section

namespace Cert.ReferenceIdeal.Stages
open Idealize.ShloMosaic Idealize.SL.Sem Cert.ReferenceIdeal Cert.ReferenceIdeal.Gen Cert.ReferenceIdeal.Value Cert.Flow

local notation "Row" => FVec Ideal S16x1x4096 FTy.f32
local notation "One4" => FVec Ideal S16x1x4096x1 FTy.f32
local notation "Ten" => FVec Ideal S16x1x4096x10 FTy.f32
local notation "Eleven" => FVec Ideal S16x1x4096x11 FTy.f32
local notation "Params" => FVec Ideal S16x1x4096x29 FTy.f32
local notation "Words" => IVec S16x1x4096x1 32

/-! ### The stages -/

def lift (y : Row) : One4 := broadcastInDim S16x1x4096x1 ![0, 1, 2] bcast_S16x1x4096_S16x1x4096x1_0_1_2 y
def fill10 (n : BitVec 32) : Ten := broadcastInDim S16x1x4096x10 ![] bcast_S_S16x1x4096x10 (constant S_ .f32 n)
def fill9 (n : BitVec 32) : FVec Ideal S16x1x4096x9 .f32 := broadcastInDim S16x1x4096x9 ![] bcast_S_S16x1x4096x9 (constant S_ .f32 n)
def fill1 (n : BitVec 32) : One4 := broadcastInDim S16x1x4096x1 ![] bcast_S_S16x1x4096x1 (constant S_ .f32 n)
def fill11 (n : BitVec 32) : Eleven := broadcastInDim S16x1x4096x11 ![] bcast_S_S16x1x4096x11 (constant S_ .f32 n)

/-- The exponentials of ten logits less their largest, the parts they give, the running sums of the parts, the knots. -/
def expo (u : Ten) : Ten :=
  Host.exp (subf u (broadcastInDim S16x1x4096x10 ![0, 1, 2, 3] bcast_S16x1x4096x1_S16x1x4096x10_0_1_2_3 (lift
    (maximumf (fillRow 0xFF800000#32) (Host.reduce FloatOps.maximumf u (constant S_ .f32 0xFF800000#32) reducesTo_S16x1x4096x10_S16x1x4096_d3 h_S_)))))
def parts (e : Ten) : Ten :=
  addf (fill10 0x3A83126F#32) (mulf (fill10 0x3F7D70A4#32) (Host.divf e
    (broadcastInDim S16x1x4096x10 ![0, 1, 2, 3] bcast_S16x1x4096x1_S16x1x4096x10_0_1_2_3 (lift
      (Host.reduceAdd e (constant S_ .f32 0x00000000#32) reducesTo_S16x1x4096x10_S16x1x4096_d3 h_S_)))))
def running (y : Ten) : Ten :=
  Host.reduceWindowAdd ![1, 1, 1, 10] ![1, 1, 1, 1] ![0, 0, 0, 9] ![0, 0, 0, 0] y (broadcastInDim S_ ![] bcast_S_S_ (constant S_ .f32 0x00000000#32))
    reduceWindows_S16x1x4096x10_S16x1x4096x10_w1s1p0_0_w1s1p0_0_w1s1p0_0_w10s1p9_0 h_S_
def knots (y : Ten) : Eleven :=
  concatenate S16x1x4096x11 3 [⟨S16x1x4096x1, id (fill1 0xC0A00000#32)⟩,
    ⟨S16x1x4096x9, addf (mulf (fill9 0x41200000#32) (extractStridedSlice S16x1x4096x9 ![0, 0, 0, 0] y slices_S16x1x4096x10_S16x1x4096x9_0_0_0_0)) (fill9 0xC0A00000#32)⟩,
    ⟨S16x1x4096x1, id (fill1 0x40A00000#32)⟩] concatenates_S16x1x4096x1_S16x1x4096x9_S16x1x4096x1_S16x1x4096x11_d3

/-- The logits of the slopes, one at each end added, and the slopes. -/
def endLogits : One4 :=
  broadcastInDim S16x1x4096x1 ![] bcast_S_S16x1x4096x1 (Host.log (subf (Host.exp (subf (constant S_ .f32 0x3F800000#32) (constant S_ .f32 0x3A83126F#32)))
    (constant S_ .f32 0x3F800000#32)))
def bendLogits (p : Params) : Eleven :=
  concatenate S16x1x4096x11 3 [⟨S16x1x4096x1, endLogits⟩,
    ⟨S16x1x4096x9, extractStridedSlice S16x1x4096x9 ![0, 0, 0, 20] p slices_S16x1x4096x29_S16x1x4096x9_0_0_0_20⟩,
    ⟨S16x1x4096x1, endLogits⟩] concatenates_S16x1x4096x1_S16x1x4096x9_S16x1x4096x1_S16x1x4096x11_d3
def slopes (u : Eleven) : Eleven :=
  addf (fill11 0x3A83126F#32) (select (cmpf .une (subf u (fill11 0x00000000#32)) (subf u (fill11 0x00000000#32))) (addf u (fill11 0x00000000#32))
    (addf (maximumf u (fill11 0x00000000#32)) (Host.log1p (Host.exp (Host.negf (Host.absf (subf u (fill11 0x00000000#32))))))))

/-- The point brought into the interval, the word of its bin, whether it lies inside. -/
def clipped (x : Row) : Row :=
  minimumf (broadcastInDim S16x1x4096 ![] bcast_S_S16x1x4096 (id (constant S_ .f32 0x40A00000#32)))
    (maximumf (broadcastInDim S16x1x4096 ![] bcast_S_S16x1x4096 (id (constant S_ .f32 0xC0A00000#32))) x)
def binWord (x : Row) (cw : Eleven) : Words :=
  broadcastInDim S16x1x4096x1 ![0, 1, 2] bcast_S16x1x4096_S16x1x4096x1_0_1_2 (minsi (broadcastInDim S16x1x4096 ![] bcast_S_S16x1x4096 (id (constantI S_ 32 9#32)))
    (maxsi (broadcastInDim S16x1x4096 ![] bcast_S_S16x1x4096 (id (constantI S_ 32 0#32))) (subi
      (Host.reduce IntOp.addi (extui 32 (cmpf .oge (broadcastInDim S16x1x4096x11 ![0, 1, 2, 3] bcast_S16x1x4096x1_S16x1x4096x11_0_1_2_3 (lift x))
        (concatenate S16x1x4096x11 3 [⟨S16x1x4096x10, extractStridedSlice S16x1x4096x10 ![0, 0, 0, 0] cw slices_S16x1x4096x11_S16x1x4096x10_0_0_0_0⟩,
          ⟨S16x1x4096x1, addf (extractStridedSlice S16x1x4096x1 ![0, 0, 0, 10] cw slices_S16x1x4096x11_S16x1x4096x1_0_0_0_10) (fill1 0x358637BD#32)⟩]
          concatenates_S16x1x4096x10_S16x1x4096x1_S16x1x4096x11_d3)) natLt_1_32) (constantI S_ 32 0#32) reducesTo_S16x1x4096x11_S16x1x4096_d3 h_S_)
      (broadcastInDim S16x1x4096 ![] bcast_S_S16x1x4096 (constantI S_ 32 1#32)))))
def inside (x : Row) : IVec S16x1x4096 1 := andi (cmpf .oge x (fillRow 0xC0A00000#32)) (cmpf .ole x (fillRow 0x40A00000#32))

/-- A word made an index (a negative one counted from the end), and the entries of two kinds of table at it. -/
def index (n : BitVec 32) (w : Words) : IVec S16x4096x1x1 32 :=
  shapeCast _ (select (cmpi .slt w (broadcastInDim S16x1x4096x1 ![] bcast_S_S16x1x4096x1 (constantI S_ 32 0#32)))
    (addi w (broadcastInDim S16x1x4096x1 ![] bcast_S_S16x1x4096x1 (constantI S_ 32 n))) w) shapeCasts_S16x1x4096x1_S16x4096x1x1
def take10 (y : Ten) (w : Words) : Row :=
  shapeCast _ (Host.gather gather_S16x1x4096x10_S16x4096x1x1_S16x1x4096x1_1_3_02_01_3_3_1111 y (index 10#32 w)) shapeCasts_S16x1x4096x1_S16x1x4096
def take11 (y : Eleven) (w : Words) : Row :=
  shapeCast _ (Host.gather gather_S16x1x4096x11_S16x4096x1x1_S16x1x4096x1_1_3_02_01_3_3_1111 y (index 11#32 w)) shapeCasts_S16x1x4096x1_S16x1x4096
/-- The first ten entries, the last ten, and the steps between. -/
def firsts (y : Eleven) : Ten := extractStridedSlice S16x1x4096x10 ![0, 0, 0, 0] y slices_S16x1x4096x11_S16x1x4096x10_0_0_0_0
def lasts (y : Eleven) : Ten := extractStridedSlice S16x1x4096x10 ![0, 0, 0, 1] y slices_S16x1x4096x11_S16x1x4096x10_0_0_0_1
def steps (y : Eleven) : Ten := subf (lasts y) (firsts y)

/-- The place in the bin, the denominator, the value and the log-derivative of rows of numbers. -/
def hump (θ : Row) : Row := mulf θ (subf (fillRow 0x3F800000#32) θ)
def bottom (δ d0 d1 θ : Row) : Row := addf δ (mulf (subf (addf d0 d1) (mulf (fillRow 0x40000000#32) δ)) (hump θ))
def valueRow (h0 hs δ d0 d1 θ : Row) : Row :=
  addf h0 (Host.divf (mulf hs (addf (mulf δ (mulf θ θ)) (mulf d0 (hump θ)))) (bottom δ d0 d1 θ))
def logRow (δ d0 d1 θ : Row) : Row :=
  subf (Host.log (mulf (mulf δ δ) (addf (addf (mulf d1 (mulf θ θ)) (mulf (mulf (fillRow 0x40000000#32) δ) (hump θ)))
      (mulf d0 (mulf (subf (fillRow 0x3F800000#32) θ) (subf (fillRow 0x3F800000#32) θ))))))
    (mulf (fillRow 0x40000000#32) (Host.log (bottom δ d0 d1 θ)))

/-! ### Tables -/

variable {b : Fin 16} {t : Fin 4096}

theorem running_ap (y : Ten) (k : Fin 10) : running y (ix4 b 0 t k) = ∑ j : Fin 10, if j.val ≤ k.val then y (ix4 b 0 t j) else (0 : EReal) :=
  prefix_ap y _ h_S_ (by pointwise) _ b t k

theorem knots_real {u : Ten} {q : Fin 10 → ℝ} (hu : ∀ j, u (ix4 b 0 t j) = (q j : EReal)) (k : Fin 11) :
    knots (running (parts (expo u))) (ix4 b 0 t k) = (knot q k : EReal) := by
  have he : ∀ j, expo u (ix4 b 0 t j) = ((Real.exp (q j - peak q) : ℝ) : EReal) := by
    intro j
    pointwise [expo, lift, fillRow]
    simp only [hu]
    rw [bits_bot, fold_peak, max_eq_right bot_le, ← EReal.coe_sub, ideal_exp]
  have hp : ∀ j, parts (expo u) (ix4 b 0 t j) = ((part q j : ℝ) : EReal) := by
    intro j
    pointwise [parts, lift, fill10]
    simp only [he]
    rw [← coe_sum, show (∑ i, Real.exp (q i - peak q)) = weight q from rfl, ideal_div _ (weight_pos q).ne', bits_least, bits_spread,
      ← EReal.coe_mul, ← EReal.coe_add]
    rfl
  pointwise [knots, fill1, fill9, id]
  unfold knot
  by_cases h1 : k.val < 1
  · rw [dif_pos h1, if_pos h1, bits_neg_five]
  rw [dif_neg h1, if_neg h1]
  by_cases h9 : k.val - 1 < 9
  · rw [dif_pos h9, if_pos h9, running_ap, bits_ten, bits_neg_five]
    have : ∀ j : Fin 10, (if j.val ≤ k.val - 1 then parts (expo u) (ix4 b 0 t j) else (0 : EReal))
        = ((if j.val < k.val then part q j else 0 : ℝ) : EReal) := by
      intro j
      rw [hp]
      by_cases h : j.val < k.val
      · rw [if_pos (by omega), if_pos h]
      · rw [if_neg (by omega), if_neg h, EReal.coe_zero]
    rw [Finset.sum_congr rfl fun j _ => this j, ← coe_sum, ← EReal.coe_mul, ← EReal.coe_add]
    rfl
  · rw [dif_neg h9, if_neg h9, bits_five]

theorem end_ap : endLogits (ix4 b 0 t 0) = (endLogit : EReal) := by
  pointwise [endLogits]
  rw [bits_least, ← EReal.coe_one, ← EReal.coe_sub, show Ideal.exp _ = _ from ideal_exp _, ← EReal.coe_sub, ideal_log endLogit_pos]
  rfl

theorem slope_ap {u : Eleven} {r : ℝ} {k : Fin 11} (hu : u (ix4 b 0 t k) = (r : EReal)) :
    slopes u (ix4 b 0 t k) = ((least + softplus r : ℝ) : EReal) := by
  have ha : FloatOps.absf (F := Ideal) (φ := .f32) (r : EReal) = ((|r| : ℝ) : EReal) := by
    show max (r : EReal) (-(r : EReal)) = _
    rw [← EReal.coe_neg]
    exact (EReal.coe_strictMono.monotone.map_max).symm
  have hm : max (r : EReal) 0 = ((max r 0 : ℝ) : EReal) := by
    rw [← EReal.coe_zero]; exact (EReal.coe_strictMono.monotone.map_max).symm
  pointwise [slopes, fill11]
  rw [hu, if_neg (fun h => h rfl), hm, ha, ← EReal.coe_neg, show Ideal.exp _ = _ from ideal_exp _]
  show _ + (_ + Ideal.log (1 + _)) = _
  rw [← EReal.coe_one, ← EReal.coe_add, ideal_log (by positivity), ← EReal.coe_add, bits_least, ← EReal.coe_add]
  rfl

theorem slopes_real {p : Params} {q : Fin 9 → ℝ} (hp : ∀ j : Fin 9, p (ix4 b 0 t ⟨20 + j.val, by omega⟩) = (q j : EReal)) (k : Fin 11) :
    slopes (bendLogits p) (ix4 b 0 t k) = (Flow.slope q k : EReal) := by
  unfold Flow.slope
  by_cases h1 : k.val < 1
  · rw [if_pos h1]
    have e : bendLogits p (ix4 b 0 t k) = (endLogit : EReal) := by
      pointwise [bendLogits]
      rw [dif_pos h1]
      exact (congrArg (fun z => endLogits (ix4 b 0 t z)) (Subsingleton.elim (α := Fin 1) _ 0)).trans end_ap
    rw [slope_ap e, slope_end]
  rw [if_neg h1]
  by_cases h9 : k.val - 1 < 9
  · rw [dif_pos h9]
    have e : bendLogits p (ix4 b 0 t k) = (q ⟨k.val - 1, h9⟩ : EReal) := by
      pointwise [bendLogits]
      rw [dif_neg h1, dif_pos h9]
      exact hp ⟨k.val - 1, h9⟩
    rw [slope_ap e]
  · rw [dif_neg h9]
    have e : bendLogits p (ix4 b 0 t k) = (endLogit : EReal) := by
      pointwise [bendLogits]
      rw [dif_neg h1, dif_neg h9]
      exact (congrArg (fun z => endLogits (ix4 b 0 t z)) (Subsingleton.elim (α := Fin 1) _ 0)).trans end_ap
    rw [slope_ap e, slope_end]

/-! ### The bin -/

theorem clipped_ap (x : Row) : clipped x (ix3 b 0 t) = inner (x (ix3 b 0 t)) := by
  pointwise [clipped, id]
  rw [bits_five, bits_neg_five]; rfl

theorem inside_ap (x : Row) : inside x (ix3 b 0 t)
    = BitVec.ofBool (decide (((-5 : ℝ) : EReal) ≤ x (ix3 b 0 t)) && decide (x (ix3 b 0 t) ≤ ((5 : ℝ) : EReal))) := by
  pointwise [inside, fillRow]
  rw [bits_five, bits_neg_five]
  cases decide (((-5 : ℝ) : EReal) ≤ x (ix3 b 0 t)) <;> cases decide (x (ix3 b 0 t) ≤ ((5 : ℝ) : EReal)) <;> rfl

theorem binWord_ap {x : Row} {cw : Eleven} {p : Fin 10 → ℝ} (hw : ∀ k, cw (ix4 b 0 t k) = (knot p k : EReal)) :
    binWord (clipped x) cw (ix4 b 0 t 0) = BitVec.ofNat 32 (bin (fun k => (knot p k : EReal)) (inner (x (ix3 b 0 t)))) := by
  have hc := clipped_ap (b := b) (t := t) x
  pointwise [binWord, lift, fill1, id]
  let q : Fin 11 → EReal := fun k => if h : k.val < 10 then cw (ix4 b 0 t k) else
    cw (ix4 b 0 t ⟨10 + (k.val - 10), by omega⟩) + Ideal.ofBits .f32 0x358637BD#32
  show IntOp.minsi (9#32) (IntOp.maxsi (0#32) (IntOp.subi (Finset.univ.fold IntOp.addi (0#32)
      (fun k : Fin 11 => BitVec.setWidth 32 (BitVec.ofBool (decide (q k ≤ clipped x (ix3 b 0 t)))))) (1#32))) = _
  rw [bin_word, hc]
  congr 1
  refine bin_nudge p _ (8796093 / 2 ^ 43) (by norm_num) q (fun k hk => ?_) ?_
  · show (if h : k.val < 10 then cw (ix4 b 0 t k) else _) = _
    rw [dif_pos hk, hw]
  · show cw (ix4 b 0 t 10) + Ideal.ofBits .f32 0x358637BD#32 = _
    rw [hw, knot_last, bits_nudge, ← EReal.coe_add]

theorem index_ap {w : Words} {k : ℕ} (hk : k < 10) (n : BitVec 32) (hw : w (ix4 b 0 t 0) = BitVec.ofNat 32 k) :
    index n w (ix4 b t 0 0) = BitVec.ofNat 32 k := by
  have h : ∀ k : Fin 10, IntOp.cmpi .slt (BitVec.ofNat 32 k.val) (0#32) = 0#1 := by decide +kernel
  pointwise [index]
  rw [hw, show IntOp.cmpi .slt (BitVec.ofNat 32 k) (0#32) = 0#1 from h ⟨k, hk⟩]
  rfl

theorem take10_ap {y : Ten} {w : Words} {k : ℕ} (hk : k < 10) (hw : w (ix4 b 0 t 0) = BitVec.ofNat 32 k) :
    take10 y w (ix3 b 0 t) = y (ix4 b 0 t ⟨k, hk⟩) := by
  have e := pick_ap gather_S16x1x4096x10_S16x4096x1x1_S16x1x4096x1_1_3_02_01_3_3_1111_wf y (index 10#32 w) b t hk (by omega) (index_ap hk _ hw)
  pointwise [take10]
  exact e
theorem take11_ap {y : Eleven} {w : Words} {k : ℕ} (hk : k < 10) (hw : w (ix4 b 0 t 0) = BitVec.ofNat 32 k) :
    take11 y w (ix3 b 0 t) = y (ix4 b 0 t ⟨k, by omega⟩) := by
  have e := pick_ap gather_S16x1x4096x11_S16x4096x1x1_S16x1x4096x1_1_3_02_01_3_3_1111_wf y (index 11#32 w) b t (k := k) (by omega) (by omega)
    (index_ap hk _ hw)
  pointwise [take11]
  exact e

/-! ### The two rows -/

theorem valueRow_ap (h0 hs δ d0 d1 θ : Row) (c0 c1 : EReal) (e0 : h0 (ix3 b 0 t) = c0) (es : hs (ix3 b 0 t) = c1 - c0) :
    valueRow h0 hs δ d0 d1 θ (ix3 b 0 t)
      = value c0 c1 (δ (ix3 b 0 t)) (d0 (ix3 b 0 t)) (d1 (ix3 b 0 t)) (θ (ix3 b 0 t)) := by
  pointwise [valueRow, bottom, hump, fillRow]
  rw [e0, es, bits_two]; rfl
theorem logRow_ap (δ d0 d1 θ : Row) :
    logRow δ d0 d1 θ (ix3 b 0 t) = logSlope (δ (ix3 b 0 t)) (d0 (ix3 b 0 t)) (d1 (ix3 b 0 t)) (θ (ix3 b 0 t)) := by
  pointwise [logRow, bottom, hump, fillRow]
  rw [bits_two]; rfl

end Cert.ReferenceIdeal.Stages

end
-- ==== Proof.Value.RefNet.lean ====
/-
  The reference's two results, read at a batch: its network's layers carried to the model, then its spline's rows.
-/
module

public import proofs.«01_k».proof.Proof.Value.RefSpline
public import proofs.«01_k».proof.Proof.Value.Plain
@[expose] public section

set_option maxRecDepth 65536

noncomputable section

namespace Cert.ReferenceIdeal.Stages
open Idealize.ShloMosaic Idealize.SL.Sem Cert.ReferenceIdeal Cert.ReferenceIdeal.Gen Cert.ReferenceIdeal.Value Cert.Flow

local notation "Hidden" => FVec Ideal S16x192x4096 FTy.f32
local notation "Row" => FVec Ideal S16x1x4096 FTy.f32
local notation "Chan" => FVec Ideal S192 FTy.f32
local notation "Ten" => FVec Ideal S16x1x4096x10 FTy.f32
local notation "Params" => FVec Ideal S16x1x4096x29 FTy.f32

/-! ### The weights of a layer -/

def chan0 (a : FVec Ideal S3x192 .f32) : Chan := shapeCast _ (extractStridedSlice S1x192 ![0, 0] a slices_S3x192_S1x192_0_0) shapeCasts_S1x192_S192
def chan1 (a : FVec Ideal S3x192 .f32) : Chan := shapeCast _ (extractStridedSlice S1x192 ![1, 0] a slices_S3x192_S1x192_1_0) shapeCasts_S1x192_S192
def chan2 (a : FVec Ideal S3x192 .f32) : Chan := shapeCast _ (extractStridedSlice S1x192 ![2, 0] a slices_S3x192_S1x192_2_0) shapeCasts_S1x192_S192
def tapsOf0 (a : FVec Ideal S3x192x1x3 .f32) : FVec Ideal S192x1x3 .f32 :=
  shapeCast _ (extractStridedSlice S1x192x1x3 ![0, 0, 0, 0] a slices_S3x192x1x3_S1x192x1x3_0_0_0_0) shapeCasts_S1x192x1x3_S192x1x3
def tapsOf1 (a : FVec Ideal S3x192x1x3 .f32) : FVec Ideal S192x1x3 .f32 :=
  shapeCast _ (extractStridedSlice S1x192x1x3 ![1, 0, 0, 0] a slices_S3x192x1x3_S1x192x1x3_1_0_0_0) shapeCasts_S1x192x1x3_S192x1x3
def tapsOf2 (a : FVec Ideal S3x192x1x3 .f32) : FVec Ideal S192x1x3 .f32 :=
  shapeCast _ (extractStridedSlice S1x192x1x3 ![2, 0, 0, 0] a slices_S3x192x1x3_S1x192x1x3_2_0_0_0) shapeCasts_S1x192x1x3_S192x1x3
def mixOf0 (a : FVec Ideal S3x192x192x1 .f32) : FVec Ideal S192x192 .f32 :=
  shapeCast _ (shapeCast _ (extractStridedSlice S1x192x192x1 ![0, 0, 0, 0] a slices_S3x192x192x1_S1x192x192x1_0_0_0_0) shapeCasts_S1x192x192x1_S192x192x1) shapeCasts_S192x192x1_S192x192
def mixOf1 (a : FVec Ideal S3x192x192x1 .f32) : FVec Ideal S192x192 .f32 :=
  shapeCast _ (shapeCast _ (extractStridedSlice S1x192x192x1 ![1, 0, 0, 0] a slices_S3x192x192x1_S1x192x192x1_1_0_0_0) shapeCasts_S1x192x192x1_S192x192x1) shapeCasts_S192x192x1_S192x192
def mixOf2 (a : FVec Ideal S3x192x192x1 .f32) : FVec Ideal S192x192 .f32 :=
  shapeCast _ (shapeCast _ (extractStridedSlice S1x192x192x1 ![2, 0, 0, 0] a slices_S3x192x192x1_S1x192x192x1_2_0_0_0) shapeCasts_S1x192x192x1_S192x192x1) shapeCasts_S192x192x1_S192x192

theorem chan0_ap (a : FVec Ideal S3x192 .f32) (c : Fin 192) : chan0 a (ix1 c) = a (ix2 0 c) := by pointwise [chan0]
theorem chan1_ap (a : FVec Ideal S3x192 .f32) (c : Fin 192) : chan1 a (ix1 c) = a (ix2 1 c) := by pointwise [chan1]
theorem chan2_ap (a : FVec Ideal S3x192 .f32) (c : Fin 192) : chan2 a (ix1 c) = a (ix2 2 c) := by pointwise [chan2]
theorem tapsOf0_ap (a : FVec Ideal S3x192x1x3 .f32) (c : Fin 192) (k : Fin 3) : tapsOf0 a (ix3 c 0 k) = a (ix4 0 c 0 k) := by pointwise [tapsOf0]
theorem tapsOf1_ap (a : FVec Ideal S3x192x1x3 .f32) (c : Fin 192) (k : Fin 3) : tapsOf1 a (ix3 c 0 k) = a (ix4 1 c 0 k) := by pointwise [tapsOf1]
theorem tapsOf2_ap (a : FVec Ideal S3x192x1x3 .f32) (c : Fin 192) (k : Fin 3) : tapsOf2 a (ix3 c 0 k) = a (ix4 2 c 0 k) := by pointwise [tapsOf2]
theorem mixOf0_ap (a : FVec Ideal S3x192x192x1 .f32) (o i : Fin 192) : mixOf0 a (ix2 o i) = a (ix4 0 o i 0) := by pointwise [mixOf0]
theorem mixOf1_ap (a : FVec Ideal S3x192x192x1 .f32) (o i : Fin 192) : mixOf1 a (ix2 o i) = a (ix4 1 o i 0) := by pointwise [mixOf1]
theorem mixOf2_ap (a : FVec Ideal S3x192x192x1 .f32) (o i : Fin 192) : mixOf2 a (ix2 o i) = a (ix4 2 o i 0) := by pointwise [mixOf2]

/-- The array opened from the conditioning row, and the parameters projected from the last one. -/
def opened (x : Row) (w : FVec Ideal S192x1x1 .f32) (z : Chan) : Hidden :=
  addf (transpose S16x192x4096 [0, 2, 1] (Host.dotGeneral dot_S16x1x4096_S192x1_S16x4096x192_1_1_02_0_n_n none x
    (shapeCast _ w shapeCasts_S192x1x1_S192x1)) transposes_S16x4096x192_S16x192x4096_0_2_1) (spreadOut z)
def projected (h : Hidden) (w : FVec Ideal S29x192x1 .f32) (z : FVec Ideal S29 .f32) (k : Row) : Params :=
  transpose S16x1x4096x29 [0, 1, 3, 2] (shapeCast _ (mulf (addf (transpose S16x29x4096 [0, 2, 1]
    (Host.dotGeneral dot_S16x192x4096_S29x192_S16x4096x29_1_1_02_0_n_n none (mulf h (rowOut k)) (shapeCast _ w shapeCasts_S29x192x1_S29x192))
    transposes_S16x4096x29_S16x29x4096_0_2_1) (broadcastInDim S16x29x4096 ![0, 1, 2] bcast_S1x29x1_S16x29x4096_0_1_2
      (broadcastInDim S1x29x1 ![1] bcast_S29_S1x29x1_1 z)))
    (broadcastInDim S16x29x4096 ![0, 1, 2] bcast_S16x1x4096_S16x29x4096_0_1_2 k)) shapeCasts_S16x29x4096_S16x1x29x4096)
    transposes_S16x1x29x4096_S16x1x4096x29_0_1_3_2

theorem opened_real {b : Fin 16} {x : Row} {w : FVec Ideal S192x1x1 .f32} {z : Chan} {f : Fin 4096 → ℝ} {u : Fin 192 → ℝ}
    (hx : ∀ t, x (ix3 b 0 t) = (f t : EReal)) (hw : ∀ c, w (ix3 c 0 0) = (u c : EReal)) (hz : Zero z) :
    Holds b (opened x w z) (fun c t => u c * f t) := by
  intro c t
  pointwise [opened, spreadOut]
  rw [Finset.sum_congr rfl fun i _ => show x (ix3 b i t) * w (ix3 c 0 0) = ((u c * f t : ℝ) : EReal) by
    rw [Subsingleton.elim (α := Fin 1) i 0, hx, hw, ← EReal.coe_mul, mul_comm], hz c, add_zero]
  exact Fin.sum_univ_one _

theorem projected_real {b : Fin 16} {h : Hidden} {w : FVec Ideal S29x192x1 .f32} {z : FVec Ideal S29 .f32} {k : Row}
    {f : Fin 192 → Fin 4096 → ℝ} {u : Fin 29 → Fin 192 → ℝ} (hh : Holds b h f) (hw : ∀ r c, w (ix3 r c 0) = (u r c : EReal))
    (hz : ∀ r, z (ix1 r) = 0) (hk : ∀ t, k (ix3 b 0 t) = 1) (t : Fin 4096) (r : Fin 29) :
    projected h w z k (ix4 b 0 t r) = ((∑ c, u r c * f c t : ℝ) : EReal) := by
  have hm := masked_real hh hk
  pointwise [projected]
  rw [hk, hz, mul_one, add_zero, coe_sum]
  refine Finset.sum_congr rfl fun c _ => ?_
  rw [show h (ix3 b c t) * rowOut k (ix3 b c t) = _ from hm c t, hw, ← EReal.coe_mul, mul_comm]

/-! ### The spline of the parameters -/

def logits0 (p : Params) : Ten := mulf (extractStridedSlice S16x1x4096x10 ![0, 0, 0, 0] p slices_S16x1x4096x29_S16x1x4096x10_0_0_0_0) (fill10 0x3D93CD3A#32)
def logits1 (p : Params) : Ten := mulf (extractStridedSlice S16x1x4096x10 ![0, 0, 0, 10] p slices_S16x1x4096x29_S16x1x4096x10_0_0_0_10) (fill10 0x3D93CD3A#32)
def across (p : Params) : FVec Ideal S16x1x4096x11 .f32 := knots (running (parts (expo (logits0 p))))
def along (p : Params) : FVec Ideal S16x1x4096x11 .f32 := knots (running (parts (expo (logits1 p))))
def bends (p : Params) : FVec Ideal S16x1x4096x11 .f32 := slopes (bendLogits p)
def word (p : Params) (x : Row) : IVec S16x1x4096x1 32 := binWord (clipped x) (across p)
def slant (p : Params) (x : Row) : Row := take10 (Host.divf (steps (along p)) (steps (across p))) (word p x)
def first (p : Params) (x : Row) : Row := take11 (bends p) (word p x)
def second (p : Params) (x : Row) : Row := take10 (lasts (bends p)) (word p x)
def spot (p : Params) (x : Row) : Row :=
  Host.divf (subf (clipped x) (take11 (across p) (word p x))) (take10 (steps (across p)) (word p x))
def movedRow (p : Params) (x : Row) : Row :=
  select (inside x) (valueRow (take11 (along p) (word p x)) (take10 (steps (along p)) (word p x)) (slant p x) (first p x) (second p x) (spot p x)) x
def ladRow (p : Params) (x : Row) : Row :=
  select (inside x) (logRow (slant p x) (first p x) (second p x) (spot p x))
    (broadcastInDim S16x1x4096 ![] bcast_S_S16x1x4096 (id (constant S_ .f32 0x00000000#32)))

theorem select_and (p q : Prop) [Decidable p] [Decidable q] (u w : EReal) :
    Scalar.select (BitVec.ofBool (decide p && decide q)) u w = if p ∧ q then u else w := by
  by_cases hp : p <;> by_cases hq : q <;> simp [hp, hq, Scalar.select]

theorem steps_ap (y : FVec Ideal S16x1x4096x11 .f32) (b : Fin 16) (t : Fin 4096) (k : ℕ) (hk : k < 10) :
    steps y (ix4 b 0 t ⟨k, hk⟩) = y (ix4 b 0 t ⟨1 + k, by omega⟩) - y (ix4 b 0 t ⟨k, by omega⟩) := by
  pointwise [steps, lasts, firsts]
theorem lasts_ap (y : FVec Ideal S16x1x4096x11 .f32) (b : Fin 16) (t : Fin 4096) (k : ℕ) (hk : k < 10) :
    lasts y (ix4 b 0 t ⟨k, hk⟩) = y (ix4 b 0 t ⟨1 + k, by omega⟩) := by
  pointwise [lasts]

section
variable {b : Fin 16} {t : Fin 4096} {p : Params} {x : Row} {q : Fin 29 → ℝ}

/-- A column of scaled parameters. -/
def scaled (q : Fin 29 → ℝ) (r : Fin 29) : ℝ := q r * (if r.val < 20 then scale else 1)

variable (hp : ∀ r, p (ix4 b 0 t r) = (q r : EReal))
include hp

theorem across_real (k : Fin 11) : across p (ix4 b 0 t k) = (wide (scaled q) k : EReal) := by
  refine knots_real (fun j => ?_) k
  pointwise [logits0, fill10]
  rw [hp, bits_scale, ← EReal.coe_mul]
  unfold scaled
  rw [if_pos (show j.val < 20 by omega)]
theorem along_real (k : Fin 11) : along p (ix4 b 0 t k) = (tall (scaled q) k : EReal) := by
  refine knots_real (fun j => ?_) k
  pointwise [logits1, fill10]
  rw [hp, bits_scale, ← EReal.coe_mul]
  unfold scaled
  rw [if_pos (show 10 + j.val < 20 by omega)]
theorem bends_real (k : Fin 11) : bends p (ix4 b 0 t k) = (steep (scaled q) k : EReal) := by
  refine slopes_real (fun j => ?_) k
  rw [hp]
  unfold scaled
  rw [if_neg (show ¬ 20 + j.val < 20 by omega), mul_one]
theorem word_ap : word p x (ix4 b 0 t 0) = BitVec.ofNat 32 (cell (scaled q) (x (ix3 b 0 t))) :=
  binWord_ap (across_real hp)
theorem slant_ap : slant p x (ix3 b 0 t) = delta (scaled q) (x (ix3 b 0 t)) := by
  have hb := cell_lt (scaled q) (x (ix3 b 0 t))
  unfold slant
  rw [take10_ap hb (word_ap hp)]
  show Ideal.div _ _ = _
  rw [steps_ap, steps_ap, across_real hp, across_real hp, along_real hp, along_real hp]
  rfl
theorem first_ap : first p x (ix3 b 0 t) = lower (steep (scaled q)) (cell (scaled q) (x (ix3 b 0 t))) (cell_lt _ _) := by
  unfold first
  rw [take11_ap (cell_lt (scaled q) (x (ix3 b 0 t))) (word_ap hp), bends_real hp]
  rfl
theorem second_ap : second p x (ix3 b 0 t) = upper (steep (scaled q)) (cell (scaled q) (x (ix3 b 0 t))) (cell_lt _ _) := by
  unfold second
  rw [take10_ap (cell_lt (scaled q) (x (ix3 b 0 t))) (word_ap hp), lasts_ap, bends_real hp]
  rfl
theorem spot_ap : spot p x (ix3 b 0 t) = theta (scaled q) (x (ix3 b 0 t)) := by
  have hb := cell_lt (scaled q) (x (ix3 b 0 t))
  pointwise [spot]
  rw [take10_ap hb (word_ap hp), take11_ap hb (word_ap hp), clipped_ap, steps_ap, across_real hp, across_real hp]
  rfl

omit hp in
theorem select_inside (u w : Row) : select (inside x) u w (ix3 b 0 t)
    = if ((-5 : ℝ) : EReal) ≤ x (ix3 b 0 t) ∧ x (ix3 b 0 t) ≤ ((5 : ℝ) : EReal) then u (ix3 b 0 t) else w (ix3 b 0 t) := by
  show Scalar.select (inside x (ix3 b 0 t)) _ _ = _
  rw [inside_ap]
  exact select_and _ _ _ _

theorem movedRow_ap : movedRow p x (ix3 b 0 t) = moved (scaled q) (x (ix3 b 0 t)) := by
  have hb := cell_lt (scaled q) (x (ix3 b 0 t))
  unfold movedRow moved
  rw [select_inside]
  refine if_congr Iff.rfl ?_ rfl
  rw [valueRow_ap _ _ _ _ _ _ (lower (tall (scaled q)) _ hb) (upper (tall (scaled q)) _ hb), slant_ap hp, first_ap hp, second_ap hp, spot_ap hp]
  · rw [take11_ap hb (word_ap hp), along_real hp]; rfl
  · rw [take10_ap hb (word_ap hp), steps_ap, along_real hp, along_real hp]; rfl
theorem ladRow_ap : ladRow p x (ix3 b 0 t) = lad (scaled q) (x (ix3 b 0 t)) := by
  unfold ladRow lad
  rw [select_inside]
  refine if_congr Iff.rfl ?_ ?_
  · rw [logRow_ap, slant_ap hp, first_ap hp, second_ap hp, spot_ap hp]
  · pointwise [id]
end

end Cert.ReferenceIdeal.Stages

end
-- ==== Proof.Value.RefRun.lean ====
/-
  The reference's run: each result, on plain arguments, is the model's.
-/
module

public import proofs.«01_k».proof.Proof.Value.RefNet
@[expose] public section

set_option maxRecDepth 65536

noncomputable section

namespace Cert.ReferenceIdeal.Stages
open Idealize.ShloMosaic Idealize.ShloMosaic.StableHlo Idealize.SL.Sem Cert.ReferenceIdeal Cert.ReferenceIdeal.Gen Cert.ReferenceIdeal.Value Cert.Flow

variable (V : Valuation τ sig (Elt Ideal))

/-! ### The arguments and the reference's own terms -/

abbrev x : FVec Ideal S16x2x4096 .f32 := V (Proc.devRef .tc main_arg0)
abbrev mask : FVec Ideal S16x1x4096 .f32 := V (Proc.devRef .tc main_arg1)
abbrev preW : FVec Ideal S192x1x1 .f32 := V (Proc.devRef .tc main_arg2)
abbrev preB : FVec Ideal S192 .f32 := V (Proc.devRef .tc main_arg3)
abbrev sepW : FVec Ideal S3x192x1x3 .f32 := V (Proc.devRef .tc main_arg4)
abbrev sepB : FVec Ideal S3x192 .f32 := V (Proc.devRef .tc main_arg5)
abbrev mixW : FVec Ideal S3x192x192x1 .f32 := V (Proc.devRef .tc main_arg6)
abbrev mixB : FVec Ideal S3x192 .f32 := V (Proc.devRef .tc main_arg7)
abbrev g1 : FVec Ideal S3x192 .f32 := V (Proc.devRef .tc main_arg8)
abbrev b1 : FVec Ideal S3x192 .f32 := V (Proc.devRef .tc main_arg9)
abbrev g2 : FVec Ideal S3x192 .f32 := V (Proc.devRef .tc main_arg10)
abbrev b2 : FVec Ideal S3x192 .f32 := V (Proc.devRef .tc main_arg11)
abbrev projW : FVec Ideal S29x192x1 .f32 := V (Proc.devRef .tc main_arg12)
abbrev projB : FVec Ideal S29 .f32 := V (Proc.devRef .tc main_arg13)

def top : FVec Ideal S16x1x4096 .f32 := extractStridedSlice S16x1x4096 ![0, 0, 0] (x V) slices_S16x2x4096_S16x1x4096_0_0_0
def low : FVec Ideal S16x1x4096 .f32 := extractStridedSlice S16x1x4096 ![0, 1, 0] (x V) slices_S16x2x4096_S16x1x4096_0_1_0
def h0 : FVec Ideal S16x192x4096 .f32 := opened (top V) (preW V) (preB V)
def y1 : FVec Ideal S16x192x4096 .f32 := conv1 (mulf (h0 V) (rowOut (mask V))) (tapsOf0 (sepW V)) (chan0 (sepB V))
def h1 : FVec Ideal S16x192x4096 .f32 :=
  body (h0 V) (y1 V) (chan0 (g1 V)) (chan0 (b1 V)) (mixOf0 (mixW V)) (chan0 (mixB V)) (chan0 (g2 V)) (chan0 (b2 V))
def y2 : FVec Ideal S16x192x4096 .f32 := conv3 (mulf (h1 V) (rowOut (mask V))) (tapsOf1 (sepW V)) (chan1 (sepB V))
def h2 : FVec Ideal S16x192x4096 .f32 :=
  body (h1 V) (y2 V) (chan1 (g1 V)) (chan1 (b1 V)) (mixOf1 (mixW V)) (chan1 (mixB V)) (chan1 (g2 V)) (chan1 (b2 V))
def y3 : FVec Ideal S16x192x4096 .f32 := conv9 (mulf (h2 V) (rowOut (mask V))) (tapsOf2 (sepW V)) (chan2 (sepB V))
def h3 : FVec Ideal S16x192x4096 .f32 :=
  body (h2 V) (y3 V) (chan2 (g1 V)) (chan2 (b1 V)) (mixOf2 (mixW V)) (chan2 (mixB V)) (chan2 (g2 V)) (chan2 (b2 V))
def raw : FVec Ideal S16x1x4096x29 .f32 := projected (h3 V) (projW V) (projB V) (mask V)

/-- The two results. -/
def result0 : FVec Ideal S16x2x4096 .f32 :=
  mulf (concatenate S16x2x4096 1 [⟨S16x1x4096, top V⟩, ⟨S16x1x4096, movedRow (raw V) (low V)⟩] concatenates_S16x1x4096_S16x1x4096_S16x2x4096_d1)
    (broadcastInDim S16x2x4096 ![0, 1, 2] bcast_S16x1x4096_S16x2x4096_0_1_2 (mask V))
def result1 : FVec Ideal S16 .f32 :=
  Host.reduceAdd (mulf (ladRow (raw V) (low V)) (mask V)) (constant S_ .f32 0x00000000#32) reducesTo_S16x1x4096_S16_d1_2 h_S_

/-! ### The generated terms are these -/

theorem h0_eq : res_main_v7 V = h0 V := rfl
theorem y1_eq : res_main_v37 V = y1 V := by
  unfold y1; rw [← h0_eq]; rfl
theorem n1_eq : res_main_v65 V = normal (y1 V) (chan0 (g1 V)) (chan0 (b1 V)) := by
  rw [← y1_eq]; rfl
theorem m1_eq : res_main_v84 V = mixed (bell (normal (y1 V) (chan0 (g1 V)) (chan0 (b1 V)))) (mixOf0 (mixW V)) (chan0 (mixB V)) := by
  rw [← n1_eq]; rfl
theorem h1_eq : res_main_v122 V = h1 V := by
  unfold h1 body
  rw [← m1_eq, ← h0_eq]; rfl
theorem y2_eq : res_main_v152 V = y2 V := by
  unfold y2; rw [← h1_eq]; rfl
theorem n2_eq : res_main_v180 V = normal (y2 V) (chan1 (g1 V)) (chan1 (b1 V)) := by
  rw [← y2_eq]; rfl
theorem m2_eq : res_main_v199 V = mixed (bell (normal (y2 V) (chan1 (g1 V)) (chan1 (b1 V)))) (mixOf1 (mixW V)) (chan1 (mixB V)) := by
  rw [← n2_eq]; rfl
theorem h2_eq : res_main_v237 V = h2 V := by
  unfold h2 body
  rw [← m2_eq, ← h1_eq]; rfl
theorem y3_eq : res_main_v267 V = y3 V := by
  unfold y3; rw [← h2_eq]; rfl
theorem n3_eq : res_main_v295 V = normal (y3 V) (chan2 (g1 V)) (chan2 (b1 V)) := by
  rw [← y3_eq]; rfl
theorem m3_eq : res_main_v314 V = mixed (bell (normal (y3 V) (chan2 (g1 V)) (chan2 (b1 V)))) (mixOf2 (mixW V)) (chan2 (mixB V)) := by
  rw [← n3_eq]; rfl
theorem raw_eq : res_main_v364 V = raw V := by
  unfold raw h3 body
  rw [← m3_eq, ← h2_eq]; rfl
theorem across_eq : res_main_v412 V = across (raw V) := by
  rw [← raw_eq]; rfl
theorem along_eq : res_main_v438 V = along (raw V) := by
  rw [← raw_eq]; rfl
theorem bends_eq : res_main_v385 V = bends (raw V) := by
  rw [← raw_eq]; rfl
theorem clipped_eq : res_main_v386 V = clipped (low V) := rfl
theorem word_eq : res_main_v459 V = word (raw V) (low V) := by
  unfold word; rw [← across_eq, ← clipped_eq]; rfl
theorem slant_eq : res_main_v467 V = slant (raw V) (low V) := by
  unfold slant; rw [← word_eq, ← across_eq, ← along_eq]; rfl
theorem first_eq : res_main_v469 V = first (raw V) (low V) := by
  unfold first; rw [← word_eq, ← bends_eq]; rfl
theorem second_eq : res_main_v472 V = second (raw V) (low V) := by
  unfold second; rw [← word_eq, ← bends_eq]; rfl
theorem spot_eq : res_main_v476 V = spot (raw V) (low V) := by
  unfold spot; rw [← word_eq, ← across_eq, ← clipped_eq]; rfl

/-- The run of the reference, its results those two. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v515) = result0 (launchContents m c)
        ∧ r.2.mem ((c.tc : Thread nD τ).loc main_v517) = result1 (launchContents m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13) := by
  refine (θ_run defs _ _).mono (fun r h c => ⟨(h c).1.trans ?_, (h c).2.1.trans ?_, (h c).2.2⟩) (run m ρ)
  · unfold result0 movedRow
    rw [← slant_eq, ← first_eq, ← second_eq, ← spot_eq, ← word_eq, ← along_eq]
    rfl
  · unfold result1 ladRow
    rw [← slant_eq, ← first_eq, ← second_eq, ← spot_eq]
    rfl

/-! ### The results on plain arguments -/

variable {V} {N : Net} (h : Plain N (x V) (mask V) (preW V) (preB V) (sepW V) (sepB V) (mixW V) (mixB V) (g1 V) (b1 V) (g2 V) (b2 V)
  (projW V) (projB V))
include h

theorem raw_real (b : Fin 16) (t : Fin 4096) (r : Fin 29) :
    raw V (ix4 b 0 t r) = ((∑ c, N.proj r c * hidden N.opening N.taps N.mixing (N.x b) c t : ℝ) : EReal) := by
  have e0 : Holds b (h0 V) (fun c t => N.opening c * N.x b t) :=
    opened_real (fun t => by pointwise [top]; exact h.x b t) h.preW h.preB
  have e1 : Holds b (h1 V) (layer 1 (N.taps 0) (N.mixing 0) (fun c t => N.opening c * N.x b t)) :=
    body_real e0 (conv1_real (masked_real e0 (h.mask b)) (fun c k => by rw [tapsOf0_ap]; exact h.sepW 0 c k) (fun c => by rw [chan0_ap]; exact h.sepB 0 c))
      (fun c => by rw [chan0_ap]; exact h.g1 0 c) (fun c => by rw [chan0_ap]; exact h.b1 0 c) (fun o i => by rw [mixOf0_ap]; exact h.mixW 0 o i)
      (fun c => by rw [chan0_ap]; exact h.mixB 0 c) (fun c => by rw [chan0_ap]; exact h.g2 0 c) (fun c => by rw [chan0_ap]; exact h.b2 0 c)
  have e2 : Holds b (h2 V) (layer 3 (N.taps 1) (N.mixing 1) _) :=
    body_real e1 (conv3_real (masked_real e1 (h.mask b)) (fun c k => by rw [tapsOf1_ap]; exact h.sepW 1 c k) (fun c => by rw [chan1_ap]; exact h.sepB 1 c))
      (fun c => by rw [chan1_ap]; exact h.g1 1 c) (fun c => by rw [chan1_ap]; exact h.b1 1 c) (fun o i => by rw [mixOf1_ap]; exact h.mixW 1 o i)
      (fun c => by rw [chan1_ap]; exact h.mixB 1 c) (fun c => by rw [chan1_ap]; exact h.g2 1 c) (fun c => by rw [chan1_ap]; exact h.b2 1 c)
  have e3 : Holds b (h3 V) (layer 9 (N.taps 2) (N.mixing 2) _) :=
    body_real e2 (conv9_real (masked_real e2 (h.mask b)) (fun c k => by rw [tapsOf2_ap]; exact h.sepW 2 c k) (fun c => by rw [chan2_ap]; exact h.sepB 2 c))
      (fun c => by rw [chan2_ap]; exact h.g1 2 c) (fun c => by rw [chan2_ap]; exact h.b1 2 c) (fun o i => by rw [mixOf2_ap]; exact h.mixW 2 o i)
      (fun c => by rw [chan2_ap]; exact h.mixB 2 c) (fun c => by rw [chan2_ap]; exact h.g2 2 c) (fun c => by rw [chan2_ap]; exact h.b2 2 c)
  exact projected_real e3 h.projW h.projB (h.mask b) t r

theorem top_ap (b : Fin 16) (t : Fin 4096) : top V (ix3 b 0 t) = x V (ix3 b 0 t) := by pointwise [top]
theorem low_ap (b : Fin 16) (t : Fin 4096) : low V (ix3 b 0 t) = x V (ix3 b 1 t) := by pointwise [low]

theorem result0_plain (b : Fin 16) (c : Fin 2) (t : Fin 4096) : result0 V (ix3 b c t) = flowed N (x V) b c t := by
  have hm : movedRow (raw V) (low V) (ix3 b 0 t) = moved (N.params b t) (x V (ix3 b 1 t)) := by
    rw [movedRow_ap (raw_real h b t), low_ap h]; rfl
  have ht := top_ap h b t
  pointwise [result0]
  rw [h.mask, mul_one]
  unfold flowed
  by_cases hc : c.val < 1
  · rw [dif_pos hc, if_pos (show c.val = 0 by omega)]
    obtain rfl : c = 0 := Fin.ext (by have := hc; omega)
    exact ht
  · rw [dif_neg hc, if_neg (show ¬ c.val = 0 by omega)]
    obtain rfl : c = 1 := Fin.ext (by have := hc; have := c.isLt; show c.val = 1; omega)
    exact hm

theorem result1_plain (b : Fin 16) : result1 V (ix1 b) = summed N (x V) b := by
  have hm : ∀ t, ladRow (raw V) (low V) (ix3 b 0 t) = lad (N.params b t) (x V (ix3 b 1 t)) := by
    intro t; rw [ladRow_ap (raw_real h b t), low_ap h]; rfl
  pointwise [result1]
  unfold summed
  refine (Fin.sum_univ_one _).trans (Finset.sum_congr rfl fun t _ => ?_)
  rw [h.mask, mul_one]
  exact hm t

end Cert.ReferenceIdeal.Stages

end
-- ==== Proof.Value.Pre.lean ====
/-
  The precondition read back: the arguments it holds of are plain.
-/
module

public import proofs.«01_k».proof.Proof.Gen.Pre_plain_inputs
public import proofs.«01_k».proof.Proof.Value.Plain
public import Idealize.ShloMosaic.Lib.ReduceAll
@[expose] public section

set_option maxRecDepth 16384

noncomputable section

namespace Cert.Pre_plain_inputs
open Idealize.ShloMosaic Cert.Flow

instance : Subsingleton S_.Idx := ⟨fun _ _ => funext fun a => a.elim0⟩

variable {s : Shape}

/-- A number whose absolute value is less than infinity is a real number. -/
theorem real_of_lt {x : EReal} (e : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at e
  unfold Ideal.cmp at e
  rcases eq_or_ne x ⊤ with rfl | h1
  · simp at e
  rcases eq_or_ne x ⊥ with rfl | h2
  · simp at e
  exact (EReal.coe_toReal h1 h2).symm

theorem eq_of_oeq {x y : EReal} (e : Ideal.cmp .oeq x y = 1#1) : x = y := by
  unfold Ideal.cmp at e
  by_contra h
  simp [h] at e

variable {axes : List (Fin s.rank)} (hb : S_.BroadcastsInDim s (![] : Fin 0 → Fin s.rank)) (hr : s.ReducesTo axes S_) (hu : 0 < S_.numel)

theorem all_real {a : FVec Ideal s .f32} {j : S_.Idx}
    (e : Host.reduce IntOp.andi (cmpf .olt (Host.absf a) (broadcastInDim s ![] hb (constant S_ .f32 0x7F800000#32))) (constantI S_ 1 1#1) hr hu j = 1#1)
    (i : s.Idx) : a i = ((a i : EReal).toReal : EReal) :=
  real_of_lt (Host.reduce_andi_all _ _ hr hu j e i)

theorem all_zero {a : FVec Ideal s .f32} {j : S_.Idx}
    (e : Host.reduce IntOp.andi (cmpf .oeq a (broadcastInDim s ![] hb (constant S_ .f32 0x00000000#32))) (constantI S_ 1 1#1) hr hu j = 1#1)
    (i : s.Idx) : a i = (0 : EReal) :=
  (eq_of_oeq (Host.reduce_andi_all _ _ hr hu j e i)).trans Ideal.ofBits_zero_f32

theorem all_one {a : FVec Ideal s .f32} {j : S_.Idx}
    (e : Host.reduce IntOp.andi (cmpf .oeq a (broadcastInDim s ![] hb (constant S_ .f32 0x3F800000#32))) (constantI S_ 1 1#1) hr hu j = 1#1)
    (i : s.Idx) : a i = (1 : EReal) :=
  (eq_of_oeq (Host.reduce_andi_all _ _ hr hu j e i)).trans Ideal.ofBits_one_f32

/-- The real numbers some arguments hold. -/
def net (x : Arr ![16, 2, 4096]) (preW : Arr ![192, 1, 1]) (sepW : Arr ![3, 192, 1, 3]) (mixW : Arr ![3, 192, 192, 1]) (projW : Arr ![29, 192, 1]) : Net where
  x b t := (x (ix3 b 0 t) : EReal).toReal
  opening c := (preW (ix3 c 0 0) : EReal).toReal
  taps l c k := (sepW (ix4 l c 0 k) : EReal).toReal
  mixing l o i := (mixW (ix4 l o i 0) : EReal).toReal
  proj r c := (projW (ix3 r c 0) : EReal).toReal

/-- Arguments of which the precondition holds are plain. -/
theorem plain_of_fn {x : Arr ![16, 2, 4096]} {mask : Arr ![16, 1, 4096]} {preW : Arr ![192, 1, 1]} {preB : Arr ![192]}
    {sepW : Arr ![3, 192, 1, 3]} {sepB : Arr ![3, 192]} {mixW : Arr ![3, 192, 192, 1]} {mixB g1 b1 g2 b2 : Arr ![3, 192]}
    {projW : Arr ![29, 192, 1]} {projB : Arr ![29]}
    (e : fn (F := Ideal) x mask preW preB sepW sepB mixW mixB g1 b1 g2 b2 projW projB = fun _ => 1#1) :
    Plain (net x preW sepW mixW projW) x mask preW preB sepW sepB mixW mixB g1 b1 g2 b2 projW projB := by
  have e := congrFun e (fun a => a.elim0)
  dsimp only [fn, fn_part1, fn_part2, fn_part3] at e
  obtain ⟨e, h11⟩ := IntOp.andi_eq_one.1 e
  obtain ⟨e, h9⟩ := IntOp.andi_eq_one.1 e
  obtain ⟨e, hz⟩ := IntOp.andi_eq_one.1 e
  obtain ⟨hf, ho⟩ := IntOp.andi_eq_one.1 e
  obtain ⟨hz, h13⟩ := IntOp.andi_eq_one.1 hz
  obtain ⟨hz, h7⟩ := IntOp.andi_eq_one.1 hz
  obtain ⟨h3, h5⟩ := IntOp.andi_eq_one.1 hz
  obtain ⟨ho, h10⟩ := IntOp.andi_eq_one.1 ho
  obtain ⟨h1, h8⟩ := IntOp.andi_eq_one.1 ho
  obtain ⟨hf, h12⟩ := IntOp.andi_eq_one.1 hf
  obtain ⟨hf, h6⟩ := IntOp.andi_eq_one.1 hf
  obtain ⟨hf, h4⟩ := IntOp.andi_eq_one.1 hf
  obtain ⟨h0, h2⟩ := IntOp.andi_eq_one.1 hf
  exact {
    x := fun b t => by
      have r := all_real _ _ _ h0 (ix3 b 0 t)
      have p : extractStridedSlice S16x1x4096 ![0, 0, 0] x Facts.slices_S16x2x4096_S16x1x4096_0_0_0 (ix3 b 0 t) = x (ix3 b 0 t) := by pointwise
      rw [p] at r
      exact r
    mask := fun _ _ => all_one _ _ _ h1 _
    preW := fun _ => all_real _ _ _ h2 _
    preB := fun _ => all_zero _ _ _ h3 _
    sepW := fun _ _ _ => all_real _ _ _ h4 _
    sepB := fun _ _ => all_zero _ _ _ h5 _
    mixW := fun _ _ _ => all_real _ _ _ h6 _
    mixB := fun _ _ => all_zero _ _ _ h7 _
    g1 := fun _ _ => all_one _ _ _ h8 _
    b1 := fun _ _ => all_zero _ _ _ h9 _
    g2 := fun _ _ => all_one _ _ _ h10 _
    b2 := fun _ _ => all_zero _ _ _ h11 _
    projW := fun _ _ => all_real _ _ _ h12 _
    projB := fun _ => all_zero _ _ _ h13 _ }

end Cert.Pre_plain_inputs

end
-- ==== Proof.lean ====
/-
  The certificate of the coupling kernel: the frames of the three programs, the named constants, and the equality of
  the kernel's two results with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_plain_inputs
public import proofs.«01_k».proof.Proof.Gen.ReferenceIdeal
public import proofs.«01_k».proof.Proof.Gen.ReferenceIdeal.Run
public import proofs.«01_k».proof.Proof.Value.KernelRun
public import proofs.«01_k».proof.Proof.Value.RefRun
public import proofs.«01_k».proof.Proof.Value.Pre
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The frame of the kernel, of its idealization and of the reference. -/
theorem frame_kernel : Cert.quiescent_Kernel (hKernel := Cert.Kernel.Gen.facts) := fun m ρ _ => Cert.Kernel.Gen.frame m ρ

theorem frame_ideal : Cert.quiescent_KernelIdeal (hKernelIdeal := Cert.KernelIdeal.Gen.facts) :=
  fun m ρ _ => Cert.KernelIdeal.Gen.frame m ρ

theorem frame_reference : Cert.quiescent_ReferenceIdeal (hReferenceIdeal := Cert.ReferenceIdeal.Gen.facts) :=
  fun m ρ _ => (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The kernel's rounded 1/192 and 1/√2 are named: over the reals they are those numbers. -/
theorem preserves : Cert.preserves_Kernel_KernelIdeal :=
  ⟨IdealRules.named_const.statement Cert.KernelIdeal.κ "inv_n" .f32 0x3BAAAAAB#32 ((1 / 192 : ℝ) : EReal) rfl,
    IdealRules.named_const.statement Cert.KernelIdeal.κ "inv_sqrt2" .f32 0x3F3504F3#32 (((Real.sqrt 2)⁻¹ : ℝ) : EReal) rfl⟩

/-- Under the precondition the frames hold as they do without it. -/
theorem frame_ideal_plain : Cert.quiescent_KernelIdeal_pre_plain_inputs (hKernelIdeal := Cert.KernelIdeal.Gen.facts)
    (hPre_plain_inputs := Cert.Pre_plain_inputs.Gen.facts) :=
  fun m ρ _ => frame_ideal m ρ trivial

theorem frame_reference_plain : Cert.quiescent_ReferenceIdeal_pre_plain_inputs (hReferenceIdeal := Cert.ReferenceIdeal.Gen.facts)
    (hPre_plain_inputs := Cert.Pre_plain_inputs.Gen.facts) :=
  fun m ρ _ => frame_reference m ρ trivial

open Cert.Flow in
/-- On plain arguments the kernel's two results are the reference's. -/
theorem equal_results : Cert.algebraic_KernelIdeal_ReferenceIdeal_pre_plain_inputs (hKernelIdeal := Cert.KernelIdeal.Gen.facts)
    (hReferenceIdeal := Cert.ReferenceIdeal.Gen.facts) (hPre_plain_inputs := Cert.Pre_plain_inputs.Gen.facts) := by
  intro m ρ m' ρ' hpre hagree
  have hN := fun c => Cert.Pre_plain_inputs.plain_of_fn (hpre c)
  refine ⟨_, _, Cert.KernelIdeal.Stages.run_plain m ρ _ hN, (θ_run Cert.ReferenceIdeal.defs _ _).mono (fun r h c => ?_)
    (Cert.ReferenceIdeal.Stages.run_results m' ρ')⟩
  have hc := hN c
  generalize Cert.Pre_plain_inputs.net _ _ _ _ _ = N at hc ⊢
  obtain ⟨a0, a1, a2, a3, a4, a5, a6, a7, a8, a9, a10, a11, a12, a13⟩ := hagree c
  have hR : Plain N (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) := by
    rw [a0, a1, a2, a3, a4, a5, a6, a7, a8, a9, a10, a11, a12, a13]
    exact hc
  refine ⟨(h c).1.trans ?_, (h c).2.1.trans ?_, (h c).2.2⟩
  · funext i
    rw [eq_ix3 i]
    refine (Cert.ReferenceIdeal.Stages.result0_plain (V := StableHlo.launchContents m' c) hR (i 0) (i 1) (i 2)).trans ?_
    exact congrArg (fun x => flowed _ x (i 0) (i 1) (i 2)) a0
  · funext i
    rw [eq_ix1 i]
    refine (Cert.ReferenceIdeal.Stages.result1_plain (V := StableHlo.launchContents m' c) hR (i 0)).trans ?_
    exact congrArg (fun x => summed _ x (i 0)) a0

/-- Everything that is claimed. -/
theorem claim : Cert.Claim := ⟨Cert.Kernel.Gen.facts, Cert.KernelIdeal.Gen.facts, Cert.ReferenceIdeal.Gen.facts, Cert.Pre_plain_inputs.Gen.facts,
  frame_kernel, frame_ideal, frame_ideal_plain, frame_reference, frame_reference_plain, preserves, equal_results⟩

end Cert.Proof

end
